-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S16x56x2x512 Cert.KernelIdeal.S16x56x1x512
  ∧ IdealRules.bf16_pair.PackStatement Cert.KernelIdeal.S56x512
  ∧ IdealRules.bf16_pair.Statement Cert.KernelIdeal.S1x56x2x512 Cert.KernelIdeal.S1x56x1x512
  ∧ IdealRules.bf16_pair.Statement Cert.KernelIdeal.S1x1x2x512 Cert.KernelIdeal.S1x1x1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x768x14336 : Shape := ⟨3, ![12, 768, 14336]⟩
abbrev S4096x56x32 : Shape := ⟨3, ![4096, 56, 32]⟩
abbrev S4096x56x64 : Shape := ⟨3, ![4096, 56, 64]⟩
abbrev S4096x56x12 : Shape := ⟨3, ![4096, 56, 12]⟩
abbrev S4096x56 : Shape := ⟨2, ![4096, 56]⟩
abbrev S9216x14336 : Shape := ⟨2, ![9216, 14336]⟩
abbrev S56x64x4096 : Shape := ⟨3, ![56, 64, 4096]⟩
abbrev S56x32x4096 : Shape := ⟨3, ![56, 32, 4096]⟩
abbrev S12x56x4096 : Shape := ⟨3, ![12, 56, 4096]⟩
abbrev S56x4096 : Shape := ⟨2, ![56, 4096]⟩
abbrev S9216x4096 : Shape := ⟨2, ![9216, 4096]⟩
abbrev S512x14336 : Shape := ⟨2, ![512, 14336]⟩
abbrev S56x64x512 : Shape := ⟨3, ![56, 64, 512]⟩
abbrev S56x32x512 : Shape := ⟨3, ![56, 32, 512]⟩
abbrev S12x56x512 : Shape := ⟨3, ![12, 56, 512]⟩
abbrev S56x512 : Shape := ⟨2, ![56, 512]⟩
abbrev S512x512 : Shape := ⟨2, ![512, 512]⟩
abbrev S14336x512 : Shape := ⟨2, ![14336, 512]⟩
abbrev S16x56x512 : Shape := ⟨3, ![16, 56, 512]⟩
abbrev S1x56x512 : Shape := ⟨3, ![1, 56, 512]⟩
abbrev S1x32x512 : Shape := ⟨3, ![1, 32, 512]⟩
abbrev S32x512 : Shape := ⟨2, ![32, 512]⟩
abbrev S8x512 : Shape := ⟨2, ![8, 512]⟩
abbrev S1x1x512 : Shape := ⟨3, ![1, 1, 512]⟩
abbrev S1x512 : Shape := ⟨2, ![1, 512]⟩
abbrev S16x512 : Shape := ⟨2, ![16, 512]⟩

abbrev nBuf : Space → Nat
  | .hbm => 11
  | .vmem => 14
  | .smem => 0
  | _ => 0

abbrev bufTy : (tb : Table) → Fin (tcTables nBuf tb) → BufTy
  | .hbm, ⟨0, _⟩ => ⟨S12x768x14336, .bf16⟩
  | .hbm, ⟨1, _⟩ => ⟨S4096x56x32, .i8⟩
  | .hbm, ⟨2, _⟩ => ⟨S4096x56x64, .i8⟩
  | .hbm, ⟨3, _⟩ => ⟨S4096x56x12, .i8⟩
  | .hbm, ⟨4, _⟩ => ⟨S4096x56, .f16⟩
  | .hbm, ⟨5, _⟩ => ⟨S9216x14336, .bf16⟩
  | .hbm, ⟨6, _⟩ => ⟨S56x64x4096, .i8⟩
  | .hbm, ⟨7, _⟩ => ⟨S56x32x4096, .i8⟩
  | .hbm, ⟨8, _⟩ => ⟨S12x56x4096, .i8⟩
  | .hbm, ⟨9, _⟩ => ⟨S56x4096, .f16⟩
  | .hbm, ⟨10, _⟩ => ⟨S9216x4096, .bf16⟩
  | .local _ .vmem, ⟨0, _⟩ => ⟨S512x14336, .bf16⟩
  | .local _ .vmem, ⟨1, _⟩ => ⟨S512x14336, .bf16⟩
  | .local _ .vmem, ⟨2, _⟩ => ⟨S56x64x512, .i8⟩
  | .local _ .vmem, ⟨3, _⟩ => ⟨S56x64x512, .i8⟩
  | .local _ .vmem, ⟨4, _⟩ => ⟨S56x32x512, .i8⟩
  | .local _ .vmem, ⟨5, _⟩ => ⟨S56x32x512, .i8⟩
  | .local _ .vmem, ⟨6, _⟩ => ⟨S12x56x512, .i8⟩
  | .local _ .vmem, ⟨7, _⟩ => ⟨S12x56x512, .i8⟩
  | .local _ .vmem, ⟨8, _⟩ => ⟨S56x512, .f16⟩
  | .local _ .vmem, ⟨9, _⟩ => ⟨S56x512, .f16⟩
  | .local _ .vmem, ⟨10, _⟩ => ⟨S512x512, .bf16⟩
  | .local _ .vmem, ⟨11, _⟩ => ⟨S512x512, .bf16⟩
  | .local _ .vmem, ⟨12, _⟩ => ⟨S14336x512, .bf16⟩
  | .local _ .vmem, ⟨13, _⟩ => ⟨S16x56x512, .i32⟩
  | _, _ => ⟨S12x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![8, 18], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_227 : BitVec 32 := 0#32
  let c56_i32 : BitVec 32 := 56#32
  let v444 : BitVec 32 := Scalar.addi c0_i32_227 c56_i32
  let c1_i32 : BitVec 32 := 1#32
  ⟨c0_i32_227, v444, c1_i32⟩
def k0_off1 (k0_t1 : Fin k0_t1_loop.trips) : Fin 3 → Nat :=
  let c0_i32_227 : BitVec 32 := 0#32
  let c1_i32 : BitVec 32 := 1#32
  let arg10 : BitVec 32 := Scf.iv c0_i32_227 c1_i32 k0_t1
  let v445 : Index := Scalar.indexCast arg10
  let c0_229 : Index := 0#32
  let c0_230 : Index := 0#32
  ![v445.toNat, 0, 0]
def k0_off2 (k0_t1 : Fin k0_t1_loop.trips) : Fin 3 → Nat :=
  let c0_i32_227 : BitVec 32 := 0#32
  let c1_i32 : BitVec 32 := 1#32
  let arg10 : BitVec 32 := Scf.iv c0_i32_227 c1_i32 k0_t1
  let v449 : Index := Scalar.indexCast arg10
  let c0_231 : Index := 0#32
  let c0_232 : Index := 0#32
  ![v449.toNat, 0, 0]
def k0_off3 (k0_t1 : Fin k0_t1_loop.trips) : Fin 3 → Nat :=
  let c0_237 : Index := 0#32
  let c0_i32_227 : BitVec 32 := 0#32
  let c1_i32 : BitVec 32 := 1#32
  let arg10 : BitVec 32 := Scf.iv c0_i32_227 c1_i32 k0_t1
  let v468 : Index := Scalar.indexCast arg10
  let c0_238 : Index := 0#32
  ![0, v468.toNat, 0]
def k0_off4 (k0_t1 : Fin k0_t1_loop.trips) (c0_i32_239 : BitVec 32) : Fin 2 → Nat :=
  let c256_i32 : BitVec 32 := 256#32
  let c0_i32_227 : BitVec 32 := 0#32
  let c1_i32 : BitVec 32 := 1#32
  let arg10 : BitVec 32 := Scf.iv c0_i32_227 c1_i32 k0_t1
  let v475 : BitVec 32 := Scalar.muli c256_i32 arg10
  let v476 : BitVec 32 := Scalar.addi v475 c0_i32_239
  let v477 : Index := Scalar.indexCast v476
  let c0_240 : Index := 0#32
  ![v477.toNat, 0]
def k0_off5 (k0_t1 : Fin k0_t1_loop.trips) : Fin 3 → Nat :=
  let c1_241 : Index := 1#32
  let c0_i32_227 : BitVec 32 := 0#32
  let c1_i32 : BitVec 32 := 1#32
  let arg10 : BitVec 32 := Scf.iv c0_i32_227 c1_i32 k0_t1
  let v481 : Index := Scalar.indexCast arg10
  let c0_242 : Index := 0#32
  ![1, v481.toNat, 0]
def k0_off6 (k0_t1 : Fin k0_t1_loop.trips) : Fin 3 → Nat :=
  let c2_251 : Index := 2#32
  let c0_i32_227 : BitVec 32 := 0#32
  let c1_i32 : BitVec 32 := 1#32
  let arg10 : BitVec 32 := Scf.iv c0_i32_227 c1_i32 k0_t1
  let v509 : Index := Scalar.indexCast arg10
  let c0_252 : Index := 0#32
  ![2, v509.toNat, 0]
def k0_off7 (k0_t1 : Fin k0_t1_loop.trips) : Fin 3 → Nat :=
  let c3_256 : Index := 3#32
  let c0_i32_227 : BitVec 32 := 0#32
  let c1_i32 : BitVec 32 := 1#32
  let arg10 : BitVec 32 := Scf.iv c0_i32_227 c1_i32 k0_t1
  let v522 : Index := Scalar.indexCast arg10
  let c0_257 : Index := 0#32
  ![3, v522.toNat, 0]
def k0_off8 (k0_t1 : Fin k0_t1_loop.trips) : Fin 3 → Nat :=
  let c4_266 : Index := 4#32
  let c0_i32_227 : BitVec 32 := 0#32
  let c1_i32 : BitVec 32 := 1#32
  let arg10 : BitVec 32 := Scf.iv c0_i32_227 c1_i32 k0_t1
  let v550 : Index := Scalar.indexCast arg10
  let c0_267 : Index := 0#32
  ![4, v550.toNat, 0]
def k0_off9 (k0_t1 : Fin k0_t1_loop.trips) : Fin 3 → Nat :=
  let c5_270 : Index := 5#32
  let c0_i32_227 : BitVec 32 := 0#32
  let c1_i32 : BitVec 32 := 1#32
  let arg10 : BitVec 32 := Scf.iv c0_i32_227 c1_i32 k0_t1
  let v563 : Index := Scalar.indexCast arg10
  let c0_271 : Index := 0#32
  ![5, v563.toNat, 0]
def k0_off10 (k0_t1 : Fin k0_t1_loop.trips) : Fin 3 → Nat :=
  let c6_280 : Index := 6#32
  let c0_i32_227 : BitVec 32 := 0#32
  let c1_i32 : BitVec 32 := 1#32
  let arg10 : BitVec 32 := Scf.iv c0_i32_227 c1_i32 k0_t1
  let v591 : Index := Scalar.indexCast arg10
  let c0_281 : Index := 0#32
  ![6, v591.toNat, 0]
def k0_off11 (k0_t1 : Fin k0_t1_loop.trips) : Fin 3 → Nat :=
  let c7_284 : Index := 7#32
  let c0_i32_227 : BitVec 32 := 0#32
  let c1_i32 : BitVec 32 := 1#32
  let arg10 : BitVec 32 := Scf.iv c0_i32_227 c1_i32 k0_t1
  let v604 : Index := Scalar.indexCast arg10
  let c0_285 : Index := 0#32
  ![7, v604.toNat, 0]
def k0_off12 (k0_t1 : Fin k0_t1_loop.trips) : Fin 3 → Nat :=
  let c0_i32_227 : BitVec 32 := 0#32
  let c1_i32 : BitVec 32 := 1#32
  let arg10 : BitVec 32 := Scf.iv c0_i32_227 c1_i32 k0_t1
  let v617 : Index := Scalar.indexCast arg10
  let c32 : Index := 32#32
  let c0_288 : Index := 0#32
  ![v617.toNat, 32, 0]
def k0_off13 (k0_t1 : Fin k0_t1_loop.trips) : Fin 3 → Nat :=
  let c8_295 : Index := 8#32
  let c0_i32_227 : BitVec 32 := 0#32
  let c1_i32 : BitVec 32 := 1#32
  let arg10 : BitVec 32 := Scf.iv c0_i32_227 c1_i32 k0_t1
  let v636 : Index := Scalar.indexCast arg10
  let c0_296 : Index := 0#32
  ![8, v636.toNat, 0]
def k0_off14 (k0_t1 : Fin k0_t1_loop.trips) : Fin 3 → Nat :=
  let c9_299 : Index := 9#32
  let c0_i32_227 : BitVec 32 := 0#32
  let c1_i32 : BitVec 32 := 1#32
  let arg10 : BitVec 32 := Scf.iv c0_i32_227 c1_i32 k0_t1
  let v649 : Index := Scalar.indexCast arg10
  let c0_300 : Index := 0#32
  ![9, v649.toNat, 0]
def k0_off15 (k0_t1 : Fin k0_t1_loop.trips) : Fin 3 → Nat :=
  let c10_308 : Index := 10#32
  let c0_i32_227 : BitVec 32 := 0#32
  let c1_i32 : BitVec 32 := 1#32
  let arg10 : BitVec 32 := Scf.iv c0_i32_227 c1_i32 k0_t1
  let v677 : Index := Scalar.indexCast arg10
  let c0_309 : Index := 0#32
  ![10, v677.toNat, 0]
def k0_off16 (k0_t1 : Fin k0_t1_loop.trips) : Fin 3 → Nat :=
  let c11_312 : Index := 11#32
  let c0_i32_227 : BitVec 32 := 0#32
  let c1_i32 : BitVec 32 := 1#32
  let arg10 : BitVec 32 := Scf.iv c0_i32_227 c1_i32 k0_t1
  let v690 : Index := Scalar.indexCast arg10
  let c0_313 : Index := 0#32
  ![11, v690.toNat, 0]
def k0_off17 (k0_t1 : Fin k0_t1_loop.trips) : Fin 3 → Nat :=
  let c12_322 : Index := 12#32
  let c0_i32_227 : BitVec 32 := 0#32
  let c1_i32 : BitVec 32 := 1#32
  let arg10 : BitVec 32 := Scf.iv c0_i32_227 c1_i32 k0_t1
  let v718 : Index := Scalar.indexCast arg10
  let c0_323 : Index := 0#32
  ![12, v718.toNat, 0]
def k0_off18 (k0_t1 : Fin k0_t1_loop.trips) : Fin 3 → Nat :=
  let c13_326 : Index := 13#32
  let c0_i32_227 : BitVec 32 := 0#32
  let c1_i32 : BitVec 32 := 1#32
  let arg10 : BitVec 32 := Scf.iv c0_i32_227 c1_i32 k0_t1
  let v731 : Index := Scalar.indexCast arg10
  let c0_327 : Index := 0#32
  ![13, v731.toNat, 0]
def k0_off19 (k0_t1 : Fin k0_t1_loop.trips) : Fin 3 → Nat :=
  let c14_335 : Index := 14#32
  let c0_i32_227 : BitVec 32 := 0#32
  let c1_i32 : BitVec 32 := 1#32
  let arg10 : BitVec 32 := Scf.iv c0_i32_227 c1_i32 k0_t1
  let v759 : Index := Scalar.indexCast arg10
  let c0_336 : Index := 0#32
  ![14, v759.toNat, 0]
def k0_off20 (k0_t1 : Fin k0_t1_loop.trips) : Fin 3 → Nat :=
  let c15_339 : Index := 15#32
  let c0_i32_227 : BitVec 32 := 0#32
  let c1_i32 : BitVec 32 := 1#32
  let arg10 : BitVec 32 := Scf.iv c0_i32_227 c1_i32 k0_t1
  let v772 : Index := Scalar.indexCast arg10
  let c0_340 : Index := 0#32
  ![15, v772.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S56x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S56x32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S12x56x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S56x512 .f16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S12x768x14336 : Shape := ⟨3, ![12, 768, 14336]⟩
abbrev S4096x56x32 : Shape := ⟨3, ![4096, 56, 32]⟩
abbrev S4096x56x64 : Shape := ⟨3, ![4096, 56, 64]⟩
abbrev S4096x56x12 : Shape := ⟨3, ![4096, 56, 12]⟩
abbrev S4096x56 : Shape := ⟨2, ![4096, 56]⟩
abbrev S9216x14336 : Shape := ⟨2, ![9216, 14336]⟩
abbrev S56x64x4096 : Shape := ⟨3, ![56, 64, 4096]⟩
abbrev S56x32x4096 : Shape := ⟨3, ![56, 32, 4096]⟩
abbrev S12x56x4096 : Shape := ⟨3, ![12, 56, 4096]⟩
abbrev S56x4096 : Shape := ⟨2, ![56, 4096]⟩
abbrev S9216x4096 : Shape := ⟨2, ![9216, 4096]⟩
abbrev S512x14336 : Shape := ⟨2, ![512, 14336]⟩
abbrev S56x64x512 : Shape := ⟨3, ![56, 64, 512]⟩
abbrev S56x32x512 : Shape := ⟨3, ![56, 32, 512]⟩
abbrev S12x56x512 : Shape := ⟨3, ![12, 56, 512]⟩
abbrev S56x512 : Shape := ⟨2, ![56, 512]⟩
abbrev S512x512 : Shape := ⟨2, ![512, 512]⟩
abbrev S14336x512 : Shape := ⟨2, ![14336, 512]⟩
abbrev S16x56x512 : Shape := ⟨3, ![16, 56, 512]⟩
abbrev S16x56x2x512 : Shape := ⟨4, ![16, 56, 2, 512]⟩
abbrev S16x56x1x512 : Shape := ⟨4, ![16, 56, 1, 512]⟩
abbrev S1x56x512 : Shape := ⟨3, ![1, 56, 512]⟩
abbrev S1x56x2x512 : Shape := ⟨4, ![1, 56, 2, 512]⟩
abbrev S1x56x1x512 : Shape := ⟨4, ![1, 56, 1, 512]⟩
abbrev S1x32x512 : Shape := ⟨3, ![1, 32, 512]⟩
abbrev S32x512 : Shape := ⟨2, ![32, 512]⟩
abbrev S8x512 : Shape := ⟨2, ![8, 512]⟩
abbrev S1x1x512 : Shape := ⟨3, ![1, 1, 512]⟩
abbrev S1x1x2x512 : Shape := ⟨4, ![1, 1, 2, 512]⟩
abbrev S1x1x1x512 : Shape := ⟨4, ![1, 1, 1, 512]⟩
abbrev S1x512 : Shape := ⟨2, ![1, 512]⟩
abbrev S16x512 : Shape := ⟨2, ![16, 512]⟩

abbrev nBuf : Space → Nat
  | .hbm => 11
  | .vmem => 14
  | .smem => 0
  | _ => 0

abbrev bufTy : (tb : Table) → Fin (tcTables nBuf tb) → BufTy
  | .hbm, ⟨0, _⟩ => ⟨S12x768x14336, .bf16⟩
  | .hbm, ⟨1, _⟩ => ⟨S4096x56x32, .i8⟩
  | .hbm, ⟨2, _⟩ => ⟨S4096x56x64, .i8⟩
  | .hbm, ⟨3, _⟩ => ⟨S4096x56x12, .i8⟩
  | .hbm, ⟨4, _⟩ => ⟨S4096x56, .f16⟩
  | .hbm, ⟨5, _⟩ => ⟨S9216x14336, .bf16⟩
  | .hbm, ⟨6, _⟩ => ⟨S56x64x4096, .i8⟩
  | .hbm, ⟨7, _⟩ => ⟨S56x32x4096, .i8⟩
  | .hbm, ⟨8, _⟩ => ⟨S12x56x4096, .i8⟩
  | .hbm, ⟨9, _⟩ => ⟨S56x4096, .f16⟩
  | .hbm, ⟨10, _⟩ => ⟨S9216x4096, .bf16⟩
  | .local _ .vmem, ⟨0, _⟩ => ⟨S512x14336, .bf16⟩
  | .local _ .vmem, ⟨1, _⟩ => ⟨S512x14336, .bf16⟩
  | .local _ .vmem, ⟨2, _⟩ => ⟨S56x64x512, .i8⟩
  | .local _ .vmem, ⟨3, _⟩ => ⟨S56x64x512, .i8⟩
  | .local _ .vmem, ⟨4, _⟩ => ⟨S56x32x512, .i8⟩
  | .local _ .vmem, ⟨5, _⟩ => ⟨S56x32x512, .i8⟩
  | .local _ .vmem, ⟨6, _⟩ => ⟨S12x56x512, .i8⟩
  | .local _ .vmem, ⟨7, _⟩ => ⟨S12x56x512, .i8⟩
  | .local _ .vmem, ⟨8, _⟩ => ⟨S56x512, .f16⟩
  | .local _ .vmem, ⟨9, _⟩ => ⟨S56x512, .f16⟩
  | .local _ .vmem, ⟨10, _⟩ => ⟨S512x512, .bf16⟩
  | .local _ .vmem, ⟨11, _⟩ => ⟨S512x512, .bf16⟩
  | .local _ .vmem, ⟨12, _⟩ => ⟨S14336x512, .bf16⟩
  | .local _ .vmem, ⟨13, _⟩ => ⟨S16x56x2x512, .bf16⟩
  | _, _ => ⟨S12x768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 18], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_227 : BitVec 32 := 0#32
  let c56_i32 : BitVec 32 := 56#32
  let v444 : BitVec 32 := Scalar.addi c0_i32_227 c56_i32
  let c1_i32 : BitVec 32 := 1#32
  ⟨c0_i32_227, v444, c1_i32⟩
def k0_off1 (k0_t1 : Fin k0_t1_loop.trips) : Fin 3 → Nat :=
  let c0_i32_227 : BitVec 32 := 0#32
  let c1_i32 : BitVec 32 := 1#32
  let arg10 : BitVec 32 := Scf.iv c0_i32_227 c1_i32 k0_t1
  let v445 : Index := Scalar.indexCast arg10
  let c0_229 : Index := 0#32
  let c0_230 : Index := 0#32
  ![v445.toNat, 0, 0]
def k0_off2 (k0_t1 : Fin k0_t1_loop.trips) : Fin 3 → Nat :=
  let c0_i32_227 : BitVec 32 := 0#32
  let c1_i32 : BitVec 32 := 1#32
  let arg10 : BitVec 32 := Scf.iv c0_i32_227 c1_i32 k0_t1
  let v449 : Index := Scalar.indexCast arg10
  let c0_231 : Index := 0#32
  let c0_232 : Index := 0#32
  ![v449.toNat, 0, 0]
def k0_off3 (k0_t1 : Fin k0_t1_loop.trips) : Fin 4 → Nat :=
  let c0_237 : Index := 0#32
  let c0_i32_227 : BitVec 32 := 0#32
  let c1_i32 : BitVec 32 := 1#32
  let arg10 : BitVec 32 := Scf.iv c0_i32_227 c1_i32 k0_t1
  let v468 : Index := Scalar.indexCast arg10
  let c0_238 : Index := 0#32
  ![0, v468.toNat, 0, 0]
def k0_off4 (k0_t1 : Fin k0_t1_loop.trips) (c0_i32_239 : BitVec 32) : Fin 2 → Nat :=
  let c256_i32 : BitVec 32 := 256#32
  let c0_i32_227 : BitVec 32 := 0#32
  let c1_i32 : BitVec 32 := 1#32
  let arg10 : BitVec 32 := Scf.iv c0_i32_227 c1_i32 k0_t1
  let v475 : BitVec 32 := Scalar.muli c256_i32 arg10
  let v476 : BitVec 32 := Scalar.addi v475 c0_i32_239
  let v477 : Index := Scalar.indexCast v476
  let c0_240 : Index := 0#32
  ![v477.toNat, 0]
def k0_off5 (k0_t1 : Fin k0_t1_loop.trips) : Fin 4 → Nat :=
  let c1_241 : Index := 1#32
  let c0_i32_227 : BitVec 32 := 0#32
  let c1_i32 : BitVec 32 := 1#32
  let arg10 : BitVec 32 := Scf.iv c0_i32_227 c1_i32 k0_t1
  let v481 : Index := Scalar.indexCast arg10
  let c0_242 : Index := 0#32
  ![1, v481.toNat, 0, 0]
def k0_off6 (k0_t1 : Fin k0_t1_loop.trips) : Fin 4 → Nat :=
  let c2_251 : Index := 2#32
  let c0_i32_227 : BitVec 32 := 0#32
  let c1_i32 : BitVec 32 := 1#32
  let arg10 : BitVec 32 := Scf.iv c0_i32_227 c1_i32 k0_t1
  let v509 : Index := Scalar.indexCast arg10
  let c0_252 : Index := 0#32
  ![2, v509.toNat, 0, 0]
def k0_off7 (k0_t1 : Fin k0_t1_loop.trips) : Fin 4 → Nat :=
  let c3_256 : Index := 3#32
  let c0_i32_227 : BitVec 32 := 0#32
  let c1_i32 : BitVec 32 := 1#32
  let arg10 : BitVec 32 := Scf.iv c0_i32_227 c1_i32 k0_t1
  let v522 : Index := Scalar.indexCast arg10
  let c0_257 : Index := 0#32
  ![3, v522.toNat, 0, 0]
def k0_off8 (k0_t1 : Fin k0_t1_loop.trips) : Fin 4 → Nat :=
  let c4_266 : Index := 4#32
  let c0_i32_227 : BitVec 32 := 0#32
  let c1_i32 : BitVec 32 := 1#32
  let arg10 : BitVec 32 := Scf.iv c0_i32_227 c1_i32 k0_t1
  let v550 : Index := Scalar.indexCast arg10
  let c0_267 : Index := 0#32
  ![4, v550.toNat, 0, 0]
def k0_off9 (k0_t1 : Fin k0_t1_loop.trips) : Fin 4 → Nat :=
  let c5_270 : Index := 5#32
  let c0_i32_227 : BitVec 32 := 0#32
  let c1_i32 : BitVec 32 := 1#32
  let arg10 : BitVec 32 := Scf.iv c0_i32_227 c1_i32 k0_t1
  let v563 : Index := Scalar.indexCast arg10
  let c0_271 : Index := 0#32
  ![5, v563.toNat, 0, 0]
def k0_off10 (k0_t1 : Fin k0_t1_loop.trips) : Fin 4 → Nat :=
  let c6_280 : Index := 6#32
  let c0_i32_227 : BitVec 32 := 0#32
  let c1_i32 : BitVec 32 := 1#32
  let arg10 : BitVec 32 := Scf.iv c0_i32_227 c1_i32 k0_t1
  let v591 : Index := Scalar.indexCast arg10
  let c0_281 : Index := 0#32
  ![6, v591.toNat, 0, 0]
def k0_off11 (k0_t1 : Fin k0_t1_loop.trips) : Fin 4 → Nat :=
  let c7_284 : Index := 7#32
  let c0_i32_227 : BitVec 32 := 0#32
  let c1_i32 : BitVec 32 := 1#32
  let arg10 : BitVec 32 := Scf.iv c0_i32_227 c1_i32 k0_t1
  let v604 : Index := Scalar.indexCast arg10
  let c0_285 : Index := 0#32
  ![7, v604.toNat, 0, 0]
def k0_off12 (k0_t1 : Fin k0_t1_loop.trips) : Fin 3 → Nat :=
  let c0_i32_227 : BitVec 32 := 0#32
  let c1_i32 : BitVec 32 := 1#32
  let arg10 : BitVec 32 := Scf.iv c0_i32_227 c1_i32 k0_t1
  let v617 : Index := Scalar.indexCast arg10
  let c32 : Index := 32#32
  let c0_288 : Index := 0#32
  ![v617.toNat, 32, 0]
def k0_off13 (k0_t1 : Fin k0_t1_loop.trips) : Fin 4 → Nat :=
  let c8_295 : Index := 8#32
  let c0_i32_227 : BitVec 32 := 0#32
  let c1_i32 : BitVec 32 := 1#32
  let arg10 : BitVec 32 := Scf.iv c0_i32_227 c1_i32 k0_t1
  let v636 : Index := Scalar.indexCast arg10
  let c0_296 : Index := 0#32
  ![8, v636.toNat, 0, 0]
def k0_off14 (k0_t1 : Fin k0_t1_loop.trips) : Fin 4 → Nat :=
  let c9_299 : Index := 9#32
  let c0_i32_227 : BitVec 32 := 0#32
  let c1_i32 : BitVec 32 := 1#32
  let arg10 : BitVec 32 := Scf.iv c0_i32_227 c1_i32 k0_t1
  let v649 : Index := Scalar.indexCast arg10
  let c0_300 : Index := 0#32
  ![9, v649.toNat, 0, 0]
def k0_off15 (k0_t1 : Fin k0_t1_loop.trips) : Fin 4 → Nat :=
  let c10_308 : Index := 10#32
  let c0_i32_227 : BitVec 32 := 0#32
  let c1_i32 : BitVec 32 := 1#32
  let arg10 : BitVec 32 := Scf.iv c0_i32_227 c1_i32 k0_t1
  let v677 : Index := Scalar.indexCast arg10
  let c0_309 : Index := 0#32
  ![10, v677.toNat, 0, 0]
def k0_off16 (k0_t1 : Fin k0_t1_loop.trips) : Fin 4 → Nat :=
  let c11_312 : Index := 11#32
  let c0_i32_227 : BitVec 32 := 0#32
  let c1_i32 : BitVec 32 := 1#32
  let arg10 : BitVec 32 := Scf.iv c0_i32_227 c1_i32 k0_t1
  let v690 : Index := Scalar.indexCast arg10
  let c0_313 : Index := 0#32
  ![11, v690.toNat, 0, 0]
def k0_off17 (k0_t1 : Fin k0_t1_loop.trips) : Fin 4 → Nat :=
  let c12_322 : Index := 12#32
  let c0_i32_227 : BitVec 32 := 0#32
  let c1_i32 : BitVec 32 := 1#32
  let arg10 : BitVec 32 := Scf.iv c0_i32_227 c1_i32 k0_t1
  let v718 : Index := Scalar.indexCast arg10
  let c0_323 : Index := 0#32
  ![12, v718.toNat, 0, 0]
def k0_off18 (k0_t1 : Fin k0_t1_loop.trips) : Fin 4 → Nat :=
  let c13_326 : Index := 13#32
  let c0_i32_227 : BitVec 32 := 0#32
  let c1_i32 : BitVec 32 := 1#32
  let arg10 : BitVec 32 := Scf.iv c0_i32_227 c1_i32 k0_t1
  let v731 : Index := Scalar.indexCast arg10
  let c0_327 : Index := 0#32
  ![13, v731.toNat, 0, 0]
def k0_off19 (k0_t1 : Fin k0_t1_loop.trips) : Fin 4 → Nat :=
  let c14_335 : Index := 14#32
  let c0_i32_227 : BitVec 32 := 0#32
  let c1_i32 : BitVec 32 := 1#32
  let arg10 : BitVec 32 := Scf.iv c0_i32_227 c1_i32 k0_t1
  let v759 : Index := Scalar.indexCast arg10
  let c0_336 : Index := 0#32
  ![14, v759.toNat, 0, 0]
def k0_off20 (k0_t1 : Fin k0_t1_loop.trips) : Fin 4 → Nat :=
  let c15_339 : Index := 15#32
  let c0_i32_227 : BitVec 32 := 0#32
  let c1_i32 : BitVec 32 := 1#32
  let arg10 : BitVec 32 := Scf.iv c0_i32_227 c1_i32 k0_t1
  let v772 : Index := Scalar.indexCast arg10
  let c0_340 : Index := 0#32
  ![15, v772.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S56x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S56x32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S12x56x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S56x512 .f16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S12x768x14336 : Shape := ⟨3, ![12, 768, 14336]⟩
abbrev S4096x56x32 : Shape := ⟨3, ![4096, 56, 32]⟩
abbrev S4096x56x64 : Shape := ⟨3, ![4096, 56, 64]⟩
abbrev S4096x56x12 : Shape := ⟨3, ![4096, 56, 12]⟩
abbrev S4096x56 : Shape := ⟨2, ![4096, 56]⟩
abbrev S16 : Shape := ⟨1, ![16]⟩
abbrev S_ : Shape := ⟨0, ![]⟩
abbrev S16x1 : Shape := ⟨2, ![16, 1]⟩
abbrev S4096x56x16 : Shape := ⟨3, ![4096, 56, 16]⟩
abbrev S1x1x16 : Shape := ⟨3, ![1, 1, 16]⟩
abbrev S4096x56x1 : Shape := ⟨3, ![4096, 56, 1]⟩
abbrev S4096x56x2x32 : Shape := ⟨4, ![4096, 56, 2, 32]⟩
abbrev S12x768x56x2x4x32 : Shape := ⟨6, ![12, 768, 56, 2, 4, 32]⟩
abbrev S4096x56x1x32 : Shape := ⟨4, ![4096, 56, 1, 32]⟩
abbrev S4096x56x2 : Shape := ⟨3, ![4096, 56, 2]⟩
abbrev S4096x56x2x16 : Shape := ⟨4, ![4096, 56, 2, 16]⟩
abbrev S4096x56x2x1 : Shape := ⟨4, ![4096, 56, 2, 1]⟩
abbrev S12x768x56x1x1x32 : Shape := ⟨6, ![12, 768, 56, 1, 1, 32]⟩
abbrev S12x768x56x32 : Shape := ⟨4, ![12, 768, 56, 32]⟩
abbrev S12x768x4096 : Shape := ⟨3, ![12, 768, 4096]⟩
abbrev S9216x4096 : Shape := ⟨2, ![9216, 4096]⟩

abbrev nBuf : Space → Nat
  | .hbm => 310
  | .vmem => 2
  | .smem => 0
  | _ => 0

abbrev hbmTy0_0 (i : Nat) : BufTy := match i % 128 with
  | 0 => ⟨S12x768x14336, .bf16⟩
  | 1 => ⟨S4096x56x32, .i8⟩
  | 2 => ⟨S4096x56x64, .i8⟩
  | 3 => ⟨S4096x56x12, .i8⟩
  | 4 => ⟨S4096x56, .f16⟩
  | 5 => ⟨S16, .i32⟩
  | 6 => ⟨S16, .i1⟩
  | 7 => ⟨S16, .i32⟩
  | 8 => ⟨S16, .i32⟩
  | 9 => ⟨S16, .i1⟩
  | 10 => ⟨S16, .i32⟩
  | 11 => ⟨S4096x56x12, .i32⟩
  | 12 => ⟨S_, .i32⟩
  | 13 => ⟨S16, .i32⟩
  | 14 => ⟨S16, .i32⟩
  | 15 => ⟨S16, .i32⟩
  | 16 => ⟨S16x1, .i32⟩
  | 17 => ⟨S4096x56x16, .i32⟩
  | 18 => ⟨S1x1x16, .i32⟩
  | 19 => ⟨S4096x56x16, .i32⟩
  | 20 => ⟨S4096x56x16, .i32⟩
  | 21 => ⟨S_, .i32⟩
  | 22 => ⟨S4096x56x16, .i32⟩
  | 23 => ⟨S4096x56x16, .i32⟩
  | 24 => ⟨S_, .i32⟩
  | 25 => ⟨S16, .i32⟩
  | 26 => ⟨S16, .i32⟩
  | 27 => ⟨S16, .i32⟩
  | 28 => ⟨S16x1, .i32⟩
  | 29 => ⟨S4096x56x16, .i32⟩
  | 30 => ⟨S1x1x16, .i32⟩
  | 31 => ⟨S4096x56x16, .i32⟩
  | 32 => ⟨S4096x56x16, .i32⟩
  | 33 => ⟨S_, .i32⟩
  | 34 => ⟨S4096x56x16, .i32⟩
  | 35 => ⟨S4096x56x16, .i32⟩
  | 36 => ⟨S_, .i32⟩
  | 37 => ⟨S4096x56x16, .i32⟩
  | 38 => ⟨S4096x56x16, .i32⟩
  | 39 => ⟨S4096x56x16, .i32⟩
  | 40 => ⟨S4096x56, .f32⟩
  | 41 => ⟨S4096x56x1, .f32⟩
  | 42 => ⟨S_, .i32⟩
  | 43 => ⟨S4096x56x16, .i32⟩
  | 44 => ⟨S4096x56x16, .i32⟩
  | 45 => ⟨S4096x56x16, .f32⟩
  | 46 => ⟨S4096x56x16, .f32⟩
  | 47 => ⟨S4096x56x16, .f32⟩
  | 48 => ⟨S4096x56x16, .bf16⟩
  | 49 => ⟨S4096x56x64, .i32⟩
  | 50 => ⟨S4096x56x2x32, .i32⟩
  | 51 => ⟨S4096x56x32, .i32⟩
  | 52 => ⟨S12x768x56x2x4x32, .bf16⟩
  | 53 => ⟨S4096x56x1x32, .i32⟩
  | 54 => ⟨S4096x56x32, .i32⟩
  | 55 => ⟨S_, .i32⟩
  | 56 => ⟨S4096x56x32, .i32⟩
  | 57 => ⟨S4096x56x32, .i32⟩
  | 58 => ⟨S_, .i32⟩
  | 59 => ⟨S4096x56x32, .i32⟩
  | 60 => ⟨S4096x56x32, .i32⟩
  | 61 => ⟨S_, .i32⟩
  | 62 => ⟨S4096x56x32, .i32⟩
  | 63 => ⟨S4096x56x32, .i32⟩
  | 64 => ⟨S_, .i32⟩
  | 65 => ⟨S4096x56x32, .i32⟩
  | 66 => ⟨S4096x56x32, .i32⟩
  | 67 => ⟨S_, .i32⟩
  | 68 => ⟨S4096x56x32, .i32⟩
  | 69 => ⟨S4096x56x32, .i32⟩
  | 70 => ⟨S4096x56x32, .i32⟩
  | 71 => ⟨S_, .i32⟩
  | 72 => ⟨S4096x56x32, .i32⟩
  | 73 => ⟨S4096x56x32, .i32⟩
  | 74 => ⟨S4096x56x32, .bf16⟩
  | 75 => ⟨S4096x56x2, .bf16⟩
  | 76 => ⟨S4096x56x2x16, .bf16⟩
  | 77 => ⟨S4096x56x2x1, .bf16⟩
  | 78 => ⟨S4096x56x2x16, .bf16⟩
  | 79 => ⟨S4096x56x2x16, .bf16⟩
  | 80 => ⟨S4096x56x32, .bf16⟩
  | 81 => ⟨S12x768x56x1x1x32, .bf16⟩
  | 82 => ⟨S12x768x56x32, .bf16⟩
  | 83 => ⟨S12x768x4096, .f32⟩
  | 84 => ⟨S4096x56x1x32, .i32⟩
  | 85 => ⟨S4096x56x32, .i32⟩
  | 86 => ⟨S_, .i32⟩
  | 87 => ⟨S4096x56x32, .i32⟩
  | 88 => ⟨S4096x56x32, .i32⟩
  | 89 => ⟨S_, .i32⟩
  | 90 => ⟨S4096x56x32, .i32⟩
  | 91 => ⟨S4096x56x32, .i32⟩
  | 92 => ⟨S_, .i32⟩
  | 93 => ⟨S4096x56x32, .i32⟩
  | 94 => ⟨S4096x56x32, .i32⟩
  | 95 => ⟨S_, .i32⟩
  | 96 => ⟨S4096x56x32, .i32⟩
  | 97 => ⟨S4096x56x32, .i32⟩
  | 98 => ⟨S_, .i32⟩
  | 99 => ⟨S4096x56x32, .i32⟩
  | 100 => ⟨S4096x56x32, .i32⟩
  | 101 => ⟨S4096x56x32, .i32⟩
  | 102 => ⟨S_, .i32⟩
  | 103 => ⟨S4096x56x32, .i32⟩
  | 104 => ⟨S4096x56x32, .i32⟩
  | 105 => ⟨S4096x56x32, .bf16⟩
  | 106 => ⟨S4096x56x2, .bf16⟩
  | 107 => ⟨S4096x56x2x16, .bf16⟩
  | 108 => ⟨S4096x56x2x1, .bf16⟩
  | 109 => ⟨S4096x56x2x16, .bf16⟩
  | 110 => ⟨S4096x56x2x16, .bf16⟩
  | 111 => ⟨S4096x56x32, .bf16⟩
  | 112 => ⟨S12x768x56x1x1x32, .bf16⟩
  | 113 => ⟨S12x768x56x32, .bf16⟩
  | 114 => ⟨S12x768x4096, .f32⟩
  | 115 => ⟨S12x768x4096, .f32⟩
  | 116 => ⟨S4096x56x1x32, .i32⟩
  | 117 => ⟨S4096x56x32, .i32⟩
  | 118 => ⟨S_, .i32⟩
  | 119 => ⟨S4096x56x32, .i32⟩
  | 120 => ⟨S4096x56x32, .i32⟩
  | 121 => ⟨S_, .i32⟩
  | 122 => ⟨S4096x56x32, .i32⟩
  | 123 => ⟨S4096x56x32, .i32⟩
  | 124 => ⟨S_, .i32⟩
  | 125 => ⟨S4096x56x32, .i32⟩
  | 126 => ⟨S4096x56x32, .i32⟩
  | 127 => ⟨S_, .i32⟩
  | _ => ⟨S12x768x14336, .bf16⟩

abbrev hbmTy0_1 (i : Nat) : BufTy := match i % 128 with
  | 0 => ⟨S4096x56x32, .i32⟩
  | 1 => ⟨S4096x56x32, .i32⟩
  | 2 => ⟨S_, .i32⟩
  | 3 => ⟨S4096x56x32, .i32⟩
  | 4 => ⟨S4096x56x32, .i32⟩
  | 5 => ⟨S4096x56x32, .i32⟩
  | 6 => ⟨S_, .i32⟩
  | 7 => ⟨S4096x56x32, .i32⟩
  | 8 => ⟨S4096x56x32, .i32⟩
  | 9 => ⟨S4096x56x32, .bf16⟩
  | 10 => ⟨S4096x56x2, .bf16⟩
  | 11 => ⟨S4096x56x2x16, .bf16⟩
  | 12 => ⟨S4096x56x2x1, .bf16⟩
  | 13 => ⟨S4096x56x2x16, .bf16⟩
  | 14 => ⟨S4096x56x2x16, .bf16⟩
  | 15 => ⟨S4096x56x32, .bf16⟩
  | 16 => ⟨S12x768x56x1x1x32, .bf16⟩
  | 17 => ⟨S12x768x56x32, .bf16⟩
  | 18 => ⟨S12x768x4096, .f32⟩
  | 19 => ⟨S12x768x4096, .f32⟩
  | 20 => ⟨S4096x56x1x32, .i32⟩
  | 21 => ⟨S4096x56x32, .i32⟩
  | 22 => ⟨S_, .i32⟩
  | 23 => ⟨S4096x56x32, .i32⟩
  | 24 => ⟨S4096x56x32, .i32⟩
  | 25 => ⟨S_, .i32⟩
  | 26 => ⟨S4096x56x32, .i32⟩
  | 27 => ⟨S4096x56x32, .i32⟩
  | 28 => ⟨S_, .i32⟩
  | 29 => ⟨S4096x56x32, .i32⟩
  | 30 => ⟨S4096x56x32, .i32⟩
  | 31 => ⟨S_, .i32⟩
  | 32 => ⟨S4096x56x32, .i32⟩
  | 33 => ⟨S4096x56x32, .i32⟩
  | 34 => ⟨S_, .i32⟩
  | 35 => ⟨S4096x56x32, .i32⟩
  | 36 => ⟨S4096x56x32, .i32⟩
  | 37 => ⟨S4096x56x32, .i32⟩
  | 38 => ⟨S_, .i32⟩
  | 39 => ⟨S4096x56x32, .i32⟩
  | 40 => ⟨S4096x56x32, .i32⟩
  | 41 => ⟨S4096x56x32, .bf16⟩
  | 42 => ⟨S4096x56x2, .bf16⟩
  | 43 => ⟨S4096x56x2x16, .bf16⟩
  | 44 => ⟨S4096x56x2x1, .bf16⟩
  | 45 => ⟨S4096x56x2x16, .bf16⟩
  | 46 => ⟨S4096x56x2x16, .bf16⟩
  | 47 => ⟨S4096x56x32, .bf16⟩
  | 48 => ⟨S12x768x56x1x1x32, .bf16⟩
  | 49 => ⟨S12x768x56x32, .bf16⟩
  | 50 => ⟨S12x768x4096, .f32⟩
  | 51 => ⟨S12x768x4096, .f32⟩
  | 52 => ⟨S4096x56x1x32, .i32⟩
  | 53 => ⟨S4096x56x32, .i32⟩
  | 54 => ⟨S_, .i32⟩
  | 55 => ⟨S4096x56x32, .i32⟩
  | 56 => ⟨S4096x56x32, .i32⟩
  | 57 => ⟨S_, .i32⟩
  | 58 => ⟨S4096x56x32, .i32⟩
  | 59 => ⟨S4096x56x32, .i32⟩
  | 60 => ⟨S_, .i32⟩
  | 61 => ⟨S4096x56x32, .i32⟩
  | 62 => ⟨S4096x56x32, .i32⟩
  | 63 => ⟨S_, .i32⟩
  | 64 => ⟨S4096x56x32, .i32⟩
  | 65 => ⟨S4096x56x32, .i32⟩
  | 66 => ⟨S_, .i32⟩
  | 67 => ⟨S4096x56x32, .i32⟩
  | 68 => ⟨S4096x56x32, .i32⟩
  | 69 => ⟨S4096x56x32, .i32⟩
  | 70 => ⟨S_, .i32⟩
  | 71 => ⟨S4096x56x32, .i32⟩
  | 72 => ⟨S4096x56x32, .i32⟩
  | 73 => ⟨S4096x56x32, .bf16⟩
  | 74 => ⟨S4096x56x2, .bf16⟩
  | 75 => ⟨S4096x56x2x16, .bf16⟩
  | 76 => ⟨S4096x56x2x1, .bf16⟩
  | 77 => ⟨S4096x56x2x16, .bf16⟩
  | 78 => ⟨S4096x56x2x16, .bf16⟩
  | 79 => ⟨S4096x56x32, .bf16⟩
  | 80 => ⟨S12x768x56x1x1x32, .bf16⟩
  | 81 => ⟨S12x768x56x32, .bf16⟩
  | 82 => ⟨S12x768x4096, .f32⟩
  | 83 => ⟨S12x768x4096, .f32⟩
  | 84 => ⟨S4096x56x1x32, .i32⟩
  | 85 => ⟨S4096x56x32, .i32⟩
  | 86 => ⟨S_, .i32⟩
  | 87 => ⟨S4096x56x32, .i32⟩
  | 88 => ⟨S4096x56x32, .i32⟩
  | 89 => ⟨S_, .i32⟩
  | 90 => ⟨S4096x56x32, .i32⟩
  | 91 => ⟨S4096x56x32, .i32⟩
  | 92 => ⟨S_, .i32⟩
  | 93 => ⟨S4096x56x32, .i32⟩
  | 94 => ⟨S4096x56x32, .i32⟩
  | 95 => ⟨S_, .i32⟩
  | 96 => ⟨S4096x56x32, .i32⟩
  | 97 => ⟨S4096x56x32, .i32⟩
  | 98 => ⟨S_, .i32⟩
  | 99 => ⟨S4096x56x32, .i32⟩
  | 100 => ⟨S4096x56x32, .i32⟩
  | 101 => ⟨S4096x56x32, .i32⟩
  | 102 => ⟨S_, .i32⟩
  | 103 => ⟨S4096x56x32, .i32⟩
  | 104 => ⟨S4096x56x32, .i32⟩
  | 105 => ⟨S4096x56x32, .bf16⟩
  | 106 => ⟨S4096x56x2, .bf16⟩
  | 107 => ⟨S4096x56x2x16, .bf16⟩
  | 108 => ⟨S4096x56x2x1, .bf16⟩
  | 109 => ⟨S4096x56x2x16, .bf16⟩
  | 110 => ⟨S4096x56x2x16, .bf16⟩
  | 111 => ⟨S4096x56x32, .bf16⟩
  | 112 => ⟨S12x768x56x1x1x32, .bf16⟩
  | 113 => ⟨S12x768x56x32, .bf16⟩
  | 114 => ⟨S12x768x4096, .f32⟩
  | 115 => ⟨S12x768x4096, .f32⟩
  | 116 => ⟨S4096x56x1x32, .i32⟩
  | 117 => ⟨S4096x56x32, .i32⟩
  | 118 => ⟨S_, .i32⟩
  | 119 => ⟨S4096x56x32, .i32⟩
  | 120 => ⟨S4096x56x32, .i32⟩
  | 121 => ⟨S_, .i32⟩
  | 122 => ⟨S4096x56x32, .i32⟩
  | 123 => ⟨S4096x56x32, .i32⟩
  | 124 => ⟨S_, .i32⟩
  | 125 => ⟨S4096x56x32, .i32⟩
  | 126 => ⟨S4096x56x32, .i32⟩
  | 127 => ⟨S_, .i32⟩
  | _ => ⟨S12x768x14336, .bf16⟩

abbrev hbmTy0_2 (i : Nat) : BufTy := match i % 128 with
  | 0 => ⟨S4096x56x32, .i32⟩
  | 1 => ⟨S4096x56x32, .i32⟩
  | 2 => ⟨S_, .i32⟩
  | 3 => ⟨S4096x56x32, .i32⟩
  | 4 => ⟨S4096x56x32, .i32⟩
  | 5 => ⟨S4096x56x32, .i32⟩
  | 6 => ⟨S_, .i32⟩
  | 7 => ⟨S4096x56x32, .i32⟩
  | 8 => ⟨S4096x56x32, .i32⟩
  | 9 => ⟨S4096x56x32, .bf16⟩
  | 10 => ⟨S4096x56x2, .bf16⟩
  | 11 => ⟨S4096x56x2x16, .bf16⟩
  | 12 => ⟨S4096x56x2x1, .bf16⟩
  | 13 => ⟨S4096x56x2x16, .bf16⟩
  | 14 => ⟨S4096x56x2x16, .bf16⟩
  | 15 => ⟨S4096x56x32, .bf16⟩
  | 16 => ⟨S12x768x56x1x1x32, .bf16⟩
  | 17 => ⟨S12x768x56x32, .bf16⟩
  | 18 => ⟨S12x768x4096, .f32⟩
  | 19 => ⟨S12x768x4096, .f32⟩
  | 20 => ⟨S4096x56x1x32, .i32⟩
  | 21 => ⟨S4096x56x32, .i32⟩
  | 22 => ⟨S_, .i32⟩
  | 23 => ⟨S4096x56x32, .i32⟩
  | 24 => ⟨S4096x56x32, .i32⟩
  | 25 => ⟨S_, .i32⟩
  | 26 => ⟨S4096x56x32, .i32⟩
  | 27 => ⟨S4096x56x32, .i32⟩
  | 28 => ⟨S_, .i32⟩
  | 29 => ⟨S4096x56x32, .i32⟩
  | 30 => ⟨S4096x56x32, .i32⟩
  | 31 => ⟨S_, .i32⟩
  | 32 => ⟨S4096x56x32, .i32⟩
  | 33 => ⟨S4096x56x32, .i32⟩
  | 34 => ⟨S_, .i32⟩
  | 35 => ⟨S4096x56x32, .i32⟩
  | 36 => ⟨S4096x56x32, .i32⟩
  | 37 => ⟨S4096x56x32, .i32⟩
  | 38 => ⟨S_, .i32⟩
  | 39 => ⟨S4096x56x32, .i32⟩
  | 40 => ⟨S4096x56x32, .i32⟩
  | 41 => ⟨S4096x56x32, .bf16⟩
  | 42 => ⟨S4096x56x2, .bf16⟩
  | 43 => ⟨S4096x56x2x16, .bf16⟩
  | 44 => ⟨S4096x56x2x1, .bf16⟩
  | 45 => ⟨S4096x56x2x16, .bf16⟩
  | 46 => ⟨S4096x56x2x16, .bf16⟩
  | 47 => ⟨S4096x56x32, .bf16⟩
  | 48 => ⟨S12x768x56x1x1x32, .bf16⟩
  | 49 => ⟨S12x768x56x32, .bf16⟩
  | 50 => ⟨S12x768x4096, .f32⟩
  | 51 => ⟨S12x768x4096, .f32⟩
  | 52 => ⟨S12x768x4096, .bf16⟩
  | 53 => ⟨S9216x4096, .bf16⟩
  | _ => ⟨S12x768x14336, .bf16⟩

abbrev hbmTy (i : Nat) : BufTy := match i / 128 with
  | 0 => hbmTy0_0 i
  | 1 => hbmTy0_1 i
  | 2 => hbmTy0_2 i
  | _ => ⟨S12x768x14336, .bf16⟩

abbrev bufTy : (tb : Table) → Fin (tcTables nBuf tb) → BufTy
  | .hbm, ⟨i, _⟩ => hbmTy i
  | .local _ .vmem, ⟨0, _⟩ => ⟨S4096x56, .f16⟩
  | .local _ .vmem, ⟨1, _⟩ => ⟨S4096x56, .f32⟩
  | _, _ => ⟨S12x768x14336, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_v0 : Ref sig .tc := ⟨.hbm, 11, rfl⟩
abbrev main_c_5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_6 : Ref sig .tc := ⟨.hbm, 21, rfl⟩
abbrev main_v9 : Ref sig .tc := ⟨.hbm, 22, rfl⟩
abbrev main_v10 : Ref sig .tc := ⟨.hbm, 23, rfl⟩
abbrev main_c_7 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_8 : Ref sig .tc := ⟨.hbm, 33, rfl⟩
abbrev main_v19 : Ref sig .tc := ⟨.hbm, 34, rfl⟩
abbrev main_v20 : Ref sig .tc := ⟨.hbm, 35, rfl⟩
abbrev main_c_9 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_c_12 : Ref sig .tc := ⟨.hbm, 58, rfl⟩
abbrev main_v40 : Ref sig .tc := ⟨.hbm, 59, rfl⟩
abbrev main_v41 : Ref sig .tc := ⟨.hbm, 60, rfl⟩
abbrev main_c_13 : Ref sig .tc := ⟨.hbm, 61, rfl⟩
abbrev main_v42 : Ref sig .tc := ⟨.hbm, 62, rfl⟩
abbrev main_v43 : Ref sig .tc := ⟨.hbm, 63, rfl⟩
abbrev main_c_14 : Ref sig .tc := ⟨.hbm, 64, rfl⟩
abbrev main_v44 : Ref sig .tc := ⟨.hbm, 65, rfl⟩
abbrev main_v45 : Ref sig .tc := ⟨.hbm, 66, rfl⟩
abbrev main_c_15 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_17 : Ref sig .tc := ⟨.hbm, 86, rfl⟩
abbrev main_v63 : Ref sig .tc := ⟨.hbm, 87, rfl⟩
abbrev main_v64 : Ref sig .tc := ⟨.hbm, 88, rfl⟩
abbrev main_c_18 : Ref sig .tc := ⟨.hbm, 89, rfl⟩
abbrev main_v65 : Ref sig .tc := ⟨.hbm, 90, rfl⟩
abbrev main_v66 : Ref sig .tc := ⟨.hbm, 91, rfl⟩
abbrev main_c_19 : Ref sig .tc := ⟨.hbm, 92, rfl⟩
abbrev main_v67 : Ref sig .tc := ⟨.hbm, 93, rfl⟩
abbrev main_v68 : Ref sig .tc := ⟨.hbm, 94, rfl⟩
abbrev main_c_20 : Ref sig .tc := ⟨.hbm, 95, rfl⟩
abbrev main_v69 : Ref sig .tc := ⟨.hbm, 96, rfl⟩
abbrev main_v70 : Ref sig .tc := ⟨.hbm, 97, rfl⟩
abbrev main_c_21 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_22 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_23 : Ref sig .tc := ⟨.hbm, 118, rfl⟩
abbrev main_v89 : Ref sig .tc := ⟨.hbm, 119, rfl⟩
abbrev main_v90 : Ref sig .tc := ⟨.hbm, 120, rfl⟩
abbrev main_c_24 : Ref sig .tc := ⟨.hbm, 121, rfl⟩
abbrev main_v91 : Ref sig .tc := ⟨.hbm, 122, rfl⟩
abbrev main_v92 : Ref sig .tc := ⟨.hbm, 123, rfl⟩
abbrev main_c_25 : Ref sig .tc := ⟨.hbm, 124, rfl⟩
abbrev main_v93 : Ref sig .tc := ⟨.hbm, 125, rfl⟩
abbrev main_v94 : Ref sig .tc := ⟨.hbm, 126, rfl⟩
abbrev main_c_26 : Ref sig .tc := ⟨.hbm, 127, rfl⟩
abbrev main_v95 : Ref sig .tc := ⟨.hbm, 128, rfl⟩
abbrev main_v96 : Ref sig .tc := ⟨.hbm, 129, rfl⟩
abbrev main_c_27 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_28 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_29 : Ref sig .tc := ⟨.hbm, 150, rfl⟩
abbrev main_v115 : Ref sig .tc := ⟨.hbm, 151, rfl⟩
abbrev main_v116 : Ref sig .tc := ⟨.hbm, 152, rfl⟩
abbrev main_c_30 : Ref sig .tc := ⟨.hbm, 153, rfl⟩
abbrev main_v117 : Ref sig .tc := ⟨.hbm, 154, rfl⟩
abbrev main_v118 : Ref sig .tc := ⟨.hbm, 155, rfl⟩
abbrev main_c_31 : Ref sig .tc := ⟨.hbm, 156, rfl⟩
abbrev main_v119 : Ref sig .tc := ⟨.hbm, 157, rfl⟩
abbrev main_v120 : Ref sig .tc := ⟨.hbm, 158, rfl⟩
abbrev main_c_32 : Ref sig .tc := ⟨.hbm, 159, rfl⟩
abbrev main_v121 : Ref sig .tc := ⟨.hbm, 160, rfl⟩
abbrev main_v122 : Ref sig .tc := ⟨.hbm, 161, rfl⟩
abbrev main_c_33 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_34 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_35 : Ref sig .tc := ⟨.hbm, 182, rfl⟩
abbrev main_v141 : Ref sig .tc := ⟨.hbm, 183, rfl⟩
abbrev main_v142 : Ref sig .tc := ⟨.hbm, 184, rfl⟩
abbrev main_c_36 : Ref sig .tc := ⟨.hbm, 185, rfl⟩
abbrev main_v143 : Ref sig .tc := ⟨.hbm, 186, rfl⟩
abbrev main_v144 : Ref sig .tc := ⟨.hbm, 187, rfl⟩
abbrev main_c_37 : Ref sig .tc := ⟨.hbm, 188, rfl⟩
abbrev main_v145 : Ref sig .tc := ⟨.hbm, 189, rfl⟩
abbrev main_v146 : Ref sig .tc := ⟨.hbm, 190, rfl⟩
abbrev main_c_38 : Ref sig .tc := ⟨.hbm, 191, rfl⟩
abbrev main_v147 : Ref sig .tc := ⟨.hbm, 192, rfl⟩
abbrev main_v148 : Ref sig .tc := ⟨.hbm, 193, rfl⟩
abbrev main_c_39 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_c_40 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_c_41 : Ref sig .tc := ⟨.hbm, 214, rfl⟩
abbrev main_v167 : Ref sig .tc := ⟨.hbm, 215, rfl⟩
abbrev main_v168 : Ref sig .tc := ⟨.hbm, 216, rfl⟩
abbrev main_c_42 : Ref sig .tc := ⟨.hbm, 217, rfl⟩
abbrev main_v169 : Ref sig .tc := ⟨.hbm, 218, rfl⟩
abbrev main_v170 : Ref sig .tc := ⟨.hbm, 219, rfl⟩
abbrev main_c_43 : Ref sig .tc := ⟨.hbm, 220, rfl⟩
abbrev main_v171 : Ref sig .tc := ⟨.hbm, 221, rfl⟩
abbrev main_v172 : Ref sig .tc := ⟨.hbm, 222, rfl⟩
abbrev main_c_44 : Ref sig .tc := ⟨.hbm, 223, rfl⟩
abbrev main_v173 : Ref sig .tc := ⟨.hbm, 224, rfl⟩
abbrev main_v174 : Ref sig .tc := ⟨.hbm, 225, rfl⟩
abbrev main_c_45 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_c_46 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_c_47 : Ref sig .tc := ⟨.hbm, 246, rfl⟩
abbrev main_v193 : Ref sig .tc := ⟨.hbm, 247, rfl⟩
abbrev main_v194 : Ref sig .tc := ⟨.hbm, 248, rfl⟩
abbrev main_c_48 : Ref sig .tc := ⟨.hbm, 249, rfl⟩
abbrev main_v195 : Ref sig .tc := ⟨.hbm, 250, rfl⟩
abbrev main_v196 : Ref sig .tc := ⟨.hbm, 251, rfl⟩
abbrev main_c_49 : Ref sig .tc := ⟨.hbm, 252, rfl⟩
abbrev main_v197 : Ref sig .tc := ⟨.hbm, 253, rfl⟩
abbrev main_v198 : Ref sig .tc := ⟨.hbm, 254, rfl⟩
abbrev main_c_50 : Ref sig .tc := ⟨.hbm, 255, rfl⟩
abbrev main_v199 : Ref sig .tc := ⟨.hbm, 256, rfl⟩
abbrev main_v200 : Ref sig .tc := ⟨.hbm, 257, rfl⟩
abbrev main_c_51 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_c_52 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_c_53 : Ref sig .tc := ⟨.hbm, 278, rfl⟩
abbrev main_v219 : Ref sig .tc := ⟨.hbm, 279, rfl⟩
abbrev main_v220 : Ref sig .tc := ⟨.hbm, 280, rfl⟩
abbrev main_c_54 : Ref sig .tc := ⟨.hbm, 281, rfl⟩
abbrev main_v221 : Ref sig .tc := ⟨.hbm, 282, rfl⟩
abbrev main_v222 : Ref sig .tc := ⟨.hbm, 283, rfl⟩
abbrev main_c_55 : Ref sig .tc := ⟨.hbm, 284, rfl⟩
abbrev main_v223 : Ref sig .tc := ⟨.hbm, 285, rfl⟩
abbrev main_v224 : Ref sig .tc := ⟨.hbm, 286, rfl⟩
abbrev main_c_56 : Ref sig .tc := ⟨.hbm, 287, rfl⟩
abbrev main_v225 : Ref sig .tc := ⟨.hbm, 288, rfl⟩
abbrev main_v226 : Ref sig .tc := ⟨.hbm, 289, rfl⟩
abbrev main_c_57 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_c_58 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x56 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.GroupScales.lean ====
/- WHAT THE KERNEL'S TABLE OF GROUP SCALES HOLDS. At the first row tile of every column tile the body decodes the 16
   group scales of each of the 56 blocks of a weight column and stores each one twice, as the two halves of a word.
   `groupScale` is the decoded scale, `groupRow` the payload of one of the 16 stores, and `table_eq` says that after the
   16 stores the table holds `groupScale` everywhere. -/
module

public import proofs.«01_k».proof.Proof.Gen.KernelIdeal.Value
public import Idealize.ShloMosaic.Lib.Pipeline.Value
public import Idealize.ShloMosaic.Lib.Pipeline.ReadBack
public import Idealize.ShloMosaic.Lib.Pointwise
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

/-- The six-bit scale code of a group, from the byte that holds its low four bits and the byte that holds its high two. -/
def scaleCode (sl sh : BitVec 32) (lo hi : BitVec 8) : BitVec 32 :=
  IntOp.ori (IntOp.andi (IntOp.shrsi .vector (lo.setWidth 32) sl) 15#32)
    (IntOp.shli .vector (IntOp.andi (IntOp.shrsi .vector (hi.setWidth 32) sh) 3#32) 4#32)

/-- One stored row of the table: the scale of one group in every block and column, each written as an equal pair. -/
def groupRow (sl sh : BitVec 32) (d : FVec Ideal S56x512 .f32) (lo hi : Vec Ideal S1x56x512 .i8) : Vec Ideal S1x56x2x512 .bf16 :=
  have l : IVec S56x512 32 := andi (shrsi (extui 32 (shapeCast S56x512 lo shapeCasts_S1x56x512_S56x512 : IVec S56x512 8) natLt_8_32) (broadcast S56x512 sl)) (broadcast S56x512 15#32)
  have h : IVec S56x512 32 := andi (shrsi (extui 32 (shapeCast S56x512 hi shapeCasts_S1x56x512_S56x512 : IVec S56x512 8) natLt_8_32) (broadcast S56x512 sh)) (broadcast S56x512 3#32)
  have c : IVec S56x512 32 := subi (ori l (shli h (broadcast S56x512 4#32))) (broadcast S56x512 32#32)
  have g : FVec Ideal S56x512 .f32 := extf .f32 (truncf .bf16 (mulf d (sitofp .f32 c)) bitsLt_bf16_f32) bitsLt_bf16_f32
  have p : FVec Ideal S56x512 .bf16 := truncf .bf16 g
  have q : FVec Ideal S1x56x512 .bf16 := shapeCast S1x56x512 p shapeCasts_S56x512_S1x56x512
  interleaveRows S1x56x2x512 (shapeCast S1x56x1x512 q shapeCasts_S1x56x512_S1x56x1x512) (shapeCast S1x56x1x512 q shapeCasts_S1x56x512_S1x56x1x512) bitcasts_S1x56x2x512_w16_S1x56x1x512_w32

/-- The scale of one group: the block's factor times the decoded code less 32. -/
def groupScale (f : EReal) (sl sh : BitVec 32) (lo hi : BitVec 8) : EReal :=
  f * FloatOps.sitofp (F := Ideal) .f32 (IntOp.subi (scaleCode sl sh lo hi) 32#32)

theorem groupRow_apply (sl sh : BitVec 32) (d : FVec Ideal S56x512 .f32) (lo hi : Vec Ideal S1x56x512 .i8)
    (a : Fin 1) (b : Fin 56) (p : Fin 2) (n : Fin 512) :
    groupRow sl sh d lo hi (ix4 a b p n) = groupScale (d (ix2 b n)) sl sh (lo (ix3 0 b n)) (hi (ix3 0 b n)) := by
  unfold groupRow
  pointwise
  have hp : (⟨p.val / 2, by omega⟩ : Fin 1) = 0 := by omega
  simp only [ite_self, hp]
  pointwise
  rfl

/-- The table the 16 stores fill: the scale of every group, block and column, at both halves of its word. -/
def scaleTable (x3 : Vec Ideal S12x56x512 .i8) (x4 : Vec Ideal S56x512 .f16) : Vec Ideal S16x56x2x512 .bf16 := fun y =>
  groupScale (x4 (ix2 (y 1) (y 3))) (BitVec.ofNat 32 (4 * ((y 0).val / 8))) (BitVec.ofNat 32 (2 * ((y 0).val / 4)))
    (x3 (ix3 (⟨(y 0).val % 8, by omega⟩ : Fin 12) (y 1) (y 3))) (x3 (ix3 (⟨8 + (y 0).val % 4, by omega⟩ : Fin 12) (y 1) (y 3)))

theorem byte_in (k : ℕ) (h : k < 12) : ∀ a, (![k, 0, 0] : Fin 3 → ℕ) a + S1x56x512.size a ≤ S12x56x512.size a := fun a => by
  fin_cases a
  · show k + 1 ≤ 12; omega
  · show 0 + 56 ≤ 56; omega
  · show 0 + 512 ≤ 512; omega

theorem row_in (i : Fin 16) : ∀ a, (![i.val, 0, 0, 0] : Fin 4 → ℕ) a + S1x56x2x512.size a ≤ S16x56x2x512.size a := fun a => by
  fin_cases a
  · show i.val + 1 ≤ 16; omega
  · show 0 + 56 ≤ 56; omega
  · show 0 + 2 ≤ 2; omega
  · show 0 + 512 ≤ 512; omega

/-- The stored row `i` is row `i` of the table. -/
theorem groupRow_piece (x3 : Vec Ideal S12x56x512 .i8) (x4 : Vec Ideal S56x512 .f16) (i : Fin 16)
    (x : S1x56x2x512.Idx) :
    groupRow (BitVec.ofNat 32 (4 * (i.val / 8))) (BitVec.ofNat 32 (2 * (i.val / 4)))
      (k0_pay40 (View.ld x4 (Rect.unit ![0, 0] S56x512.size inb_S56x512_S56x512_0_0)))
      (View.ld x3 (Rect.unit ![i.val % 8, 0, 0] S1x56x512.size (byte_in _ (by omega)))) (View.ld x3 (Rect.unit ![8 + i.val % 4, 0, 0] S1x56x512.size (byte_in _ (by omega)))) x
      = scaleTable x3 x4 ((Rect.unit (s := S16x56x2x512) ![i.val, 0, 0, 0] S1x56x2x512.size (row_in i)).emb x) := by
  obtain ⟨a, b, p, n, rfl⟩ : ∃ (a : Fin 1) (b : Fin 56) (p : Fin 2) (n : Fin 512), x = ix4 a b p n := ⟨x 0, x 1, x 2, x 3, eq_ix4 x⟩
  rw [groupRow_apply]
  have e0 : ((Rect.unit (s := S16x56x2x512) ![i.val, 0, 0, 0] S1x56x2x512.size (row_in i)).emb (ix4 a b p n) 0).val = i.val := by
    rw [Rect.emb_apply]; show i.val + 1 * a.val = i.val; omega
  have e1 : (Rect.unit (s := S16x56x2x512) ![i.val, 0, 0, 0] S1x56x2x512.size (row_in i)).emb (ix4 a b p n) 1 = b := by
    apply Fin.ext; rw [Rect.emb_apply]; show 0 + 1 * b.val = b.val; omega
  have e3 : (Rect.unit (s := S16x56x2x512) ![i.val, 0, 0, 0] S1x56x2x512.size (row_in i)).emb (ix4 a b p n) 3 = n := by
    apply Fin.ext; rw [Rect.emb_apply]; show 0 + 1 * n.val = n.val; omega
  unfold scaleTable k0_pay40
  simp only [e0, e1, e3]
  pointwise

/-- AFTER THE 16 STORES the table holds `scaleTable`. -/
theorem table_eq (c : Dev nD) (arg5 : Memref sig .tc .vmem S12x56x512 .i8) (harg5 : arg5.IsWhole) (arg6 : Memref sig .tc .vmem S56x512 .f16) (harg6 : arg6.IsWhole)
    (x3 : Vec Ideal S12x56x512 .i8) (x4 : Vec Ideal S56x512 .f16) :
    View.canon (kernelRun0_A.sl.HS1_16 c arg5 harg5 arg6 harg6 x3 x4) = scaleTable x3 x4 := by
  funext y
  refine View.canon_apply_of_pieces (scaleTable x3 x4) _ (View.PiecesOf.mem ?_) y
    (View.cover_of_tiledL (kernelRun0_A.sl.HS1_16 c arg5 harg5 arg6 harg6 x3 x4) S1x56x2x512.size (by sl_kernel_rfl) y)
  sl_unfold_words
  simp only [View.readAt_eq_ld, harg5.read_unread, harg6.read_unread]
  exact ⟨groupRow_piece x3 x4 15, groupRow_piece x3 x4 14, groupRow_piece x3 x4 13, groupRow_piece x3 x4 12,
    groupRow_piece x3 x4 11, groupRow_piece x3 x4 10, groupRow_piece x3 x4 9, groupRow_piece x3 x4 8,
    groupRow_piece x3 x4 7, groupRow_piece x3 x4 6, groupRow_piece x3 x4 5, groupRow_piece x3 x4 4,
    groupRow_piece x3 x4 3, groupRow_piece x3 x4 2, groupRow_piece x3 x4 1, groupRow_piece x3 x4 0, trivial⟩

end Cert.KernelIdeal.Value

end
-- ==== Proof.Codes.lean ====
/- THE WEIGHT CODES. A weight's three-bit code is two bits of a byte of `qs` and one bit of a byte of `hmask`. The kernel
   reads four bytes as one word, shifts and masks the words, and reads the result as bytes again: `fieldByte_apply` says
   each result byte is the code of the bytes in its own place. The reference widens every byte to a word first:
   `field_low`, `field_high` read its two parts, and `code_value` says both give the same number. -/
module

public import Idealize.ShloMosaic.Lib.BitcastFour
public import Idealize.ShloMosaic.Lib.Pointwise

@[expose] public section

noncomputable section

namespace Cert.Q3

open Idealize.ShloMosaic

/-- The low two bits of a code: bits `j`, `j + 1` of its byte. -/
def lowBits (j : ℕ) (q : BitVec 8) : BitVec 2 := q.extractLsb' j 2

/-- The high bit of a code: bit `j` of its byte. -/
def highBit (j : ℕ) (h : BitVec 8) : BitVec 1 := h.extractLsb' j 1

/-- A code as a byte. -/
def codeByte (u : BitVec 2) (v : BitVec 1) : BitVec 8 := u.setWidth 8 ||| v.setWidth 8 <<< 2

/-- The number a code stands for. -/
def codeValue (u : BitVec 2) (v : BitVec 1) : EReal := ((((u.toNat + 4 * v.toNat : ℕ) : ℤ) - 4 : ℤ) : ℝ)

theorem shrsi_nat {w : ℕ} (t : ArithUnit) (x : BitVec w) (j : ℕ) (h : j < w) (h' : w < 2 ^ w) :
    IntOp.shrsi t x (BitVec.ofNat w j) = x.sshiftRight j := by
  unfold IntOp.shrsi
  have e : (BitVec.ofNat w j).toNat = j := by rw [BitVec.toNat_ofNat]; exact Nat.mod_eq_of_lt (by omega)
  rw [if_pos (by omega)]
  show x.sshiftRight (BitVec.ofNat w j).toNat = _
  rw [e]

theorem getLsbD_three (i : ℕ) (h : i < 32) : (50529027#32).getLsbD i = decide (i % 8 < 2) := by interval_cases i <;> rfl

theorem getLsbD_one (i : ℕ) (h : i < 32) : (16843009#32).getLsbD i = decide (i % 8 < 1) := by interval_cases i <;> rfl

/-- Bits of the masked and shifted words, byte by byte. -/
theorem field_getLsbD (Q H : BitVec 32) (q h : BitVec 8) (jl jh c i : ℕ) (hl : jl ≤ 6) (hh : jh ≤ 7) (hc : c < 4) (hi : i < 8)
    (hQ : ∀ i < 8, Q.getLsbD (8 * c + i) = q.getLsbD i) (hH : ∀ i < 8, H.getLsbD (8 * c + i) = h.getLsbD i) :
    ((Q.sshiftRight jl &&& 50529027#32) ||| ((H.sshiftRight jh &&& 16843009#32) <<< 2)).getLsbD (8 * c + i)
      = (codeByte (lowBits jl q) (highBit jh h)).getLsbD i := by
  have hlow : (decide (i % 8 < 2) = true) → (Q.sshiftRight jl).getLsbD (8 * c + i) = q.getLsbD (jl + i) := fun hd => by
    have hd : i % 8 < 2 := of_decide_eq_true hd
    rw [BitVec.getLsbD_sshiftRight, ← hQ (jl + i) (by omega), show 8 * c + (jl + i) = jl + (8 * c + i) by omega]
    simp [show jl + (8 * c + i) < 32 by omega, show 8 * c + i < 32 by omega]
  have hhigh : 2 ≤ i → i < 3 → (H.sshiftRight jh).getLsbD (8 * c + i - 2) = h.getLsbD (jh + (i - 2)) := fun h2 h3 => by
    rw [BitVec.getLsbD_sshiftRight, ← hH (jh + (i - 2)) (by omega), show 8 * c + (jh + (i - 2)) = jh + (8 * c + i - 2) by omega]
    simp [show jh + (8 * c + i - 2) < 32 by omega, show 8 * c + i - 2 < 32 by omega]
  unfold codeByte lowBits highBit
  simp only [BitVec.getLsbD_or, BitVec.getLsbD_and, BitVec.getLsbD_shiftLeft, BitVec.getLsbD_setWidth, BitVec.getLsbD_extractLsb']
  rw [getLsbD_three _ (by omega)]
  have m1 : (8 * c + i) % 8 = i % 8 := by omega
  rw [m1]
  have hlow' : ((Q.sshiftRight jl).getLsbD (8 * c + i) && decide (i % 8 < 2)) = (decide (i < 2) && q.getLsbD (jl + i)) := by
    by_cases hd : i < 2
    · rw [hlow (by simp; omega)]; simp [hd, show i % 8 < 2 by omega]
    · simp [hd, show ¬ i % 8 < 2 by omega]
  rw [hlow']
  by_cases h2 : i < 2
  · rcases Nat.eq_zero_or_pos c with rfl | hc0
    · simp [h2, hi]
    · have : (16843009#32).getLsbD (8 * c + i - 2) = false := by rw [getLsbD_one _ (by omega)]; simp; omega
      simp [h2, hi, this]
  · rw [getLsbD_one _ (by omega)]
    by_cases h3 : i < 3
    · rw [hhigh (by omega) h3]
      simp [h2, hi, h3, show i - 2 < 8 by omega, show i - 2 < 1 by omega, show 8 * c + i < 32 by omega, show ¬ 8 * c + i < 2 by omega, show (8 * c + i - 2) % 8 < 1 by omega]
    · simp [h2, hi, show ¬ i - 2 < 1 by omega, show ¬ (8 * c + i - 2) % 8 < 1 by omega]

/-- THE KERNEL'S CODES: bytes read as words, shifted, masked, joined, and read as bytes. -/
theorem fieldByte_apply {n : ℕ} (qs hm : IVec ⟨2, ![32, n]⟩ 8) (hb : (⟨2, ![32, n]⟩ : Shape).Bitcasts 8 ⟨2, ![8, n]⟩ 32)
    (hb' : (⟨2, ![8, n]⟩ : Shape).Bitcasts 32 ⟨2, ![32, n]⟩ 8) (jl jh : ℕ) (hl : jl ≤ 6) (hh : jh ≤ 7) (a : Fin 32) (l : Fin n) :
    bitcast ⟨2, ![32, n]⟩ 8 (ori (andi (shrsi (bitcast ⟨2, ![8, n]⟩ 32 qs hb) (broadcast _ (BitVec.ofNat 32 jl))) (broadcast _ 50529027#32))
      (shli (andi (shrsi (bitcast ⟨2, ![8, n]⟩ 32 hm hb) (broadcast _ (BitVec.ofNat 32 jh))) (broadcast _ 16843009#32)) (broadcast _ 2#32))) hb' (ix2 a l)
      = codeByte (lowBits jl (qs (ix2 a l))) (highBit jh (hm (ix2 a l))) := by
  apply BitVec.eq_of_getLsbD_eq
  intro i hi
  rw [bitcast_getLsbD _ hb' _ i hi (by decide)]
  have er : (⟨2, ![32, n]⟩ : Shape).row (ix2 a l) = a.val := rfl
  have ej : ∀ hp, hb'.srcIdx (ix2 a l) (((⟨2, ![32, n]⟩ : Shape).row (ix2 a l) * 8 + i) / 32) hp = ix2 (⟨a.val / 4, by omega⟩ : Fin 8) l := by
    intro hp
    funext c
    match c with
    | ⟨0, _⟩ => exact Fin.ext ((hb'.srcIdx_row _ _ _ ⟨0, Nat.zero_lt_two⟩ rfl).trans (by rw [er]; show _ = a.val / 4; omega))
    | ⟨1, _⟩ => exact Fin.ext (hb'.srcIdx_other _ _ _ ⟨1, Nat.one_lt_two⟩ (by show ¬ 1 + 2 = 2; omega))
  rw [ej, er]
  have ei : (a.val * 8 + i) % 32 = 8 * (a.val % 4) + i := by omega
  rw [ei]
  have hword (x : IVec ⟨2, ![32, n]⟩ 8) : ∀ i < 8, (bitcast ⟨2, ![8, n]⟩ 32 x hb (ix2 (⟨a.val / 4, by omega⟩ : Fin 8) l)).getLsbD (8 * (a.val % 4) + i)
      = (x (ix2 a l)).getLsbD i := fun i hi => by
    rw [ix2_eq_valueIdx, bitcast_8_32_getLsbD_ix2 x hb _ l _ (by omega) a (by show a.val = 4 * (a.val / 4) + _; omega), ← ix2_eq_valueIdx]
    congr 1; omega
  show (IntOp.ori (IntOp.andi (IntOp.shrsi .vector _ (BitVec.ofNat 32 jl)) 50529027#32) (IntOp.shli .vector (IntOp.andi (IntOp.shrsi .vector _ (BitVec.ofNat 32 jh)) 16843009#32) 2#32)).getLsbD _ = _
  rw [shrsi_nat _ _ jl (by omega) (by omega), shrsi_nat _ _ jh (by omega) (by omega)]
  exact field_getLsbD _ _ _ _ jl jh (a.val % 4) i hl hh (by omega) (by omega) (hword qs) (hword hm)

/-- The kernel's number: the code byte less four. -/
theorem code_value (u : BitVec 2) (v : BitVec 1) :
    (((codeByte u v).toInt : ℝ) : EReal) - Ideal.ofBits .bf16 0x4080#16 = codeValue u v := by
  have h4 : Ideal.ofBits .bf16 0x4080#16 = ((4 : ℝ) : EReal) := by
    simp [Ideal.ofBits, Ideal.ieee, -EReal.coe_mul]; norm_num
  have hz : (codeByte u v).toInt = ((u.toNat + 4 * v.toNat : ℕ) : ℤ) := by revert u v; decide
  rw [h4, hz]
  unfold codeValue
  rw [← EReal.coe_sub]
  push_cast
  rfl

/-- The low part the reference computes from the widened byte. -/
theorem field_low (t : ArithUnit) (q : BitVec 8) (j : ℕ) (hj : j ≤ 6) :
    IntOp.andi (IntOp.shrsi t (q.setWidth 32) (BitVec.ofNat 32 j)) 3#32 = (lowBits j q).setWidth 32 := by
  rw [shrsi_nat _ _ j (by omega) (by omega)]
  apply BitVec.eq_of_getLsbD_eq
  intro i hi
  have h3 : (3#32).getLsbD i = decide (i < 2) := by interval_cases i <;> rfl
  simp only [IntOp.andi, lowBits, BitVec.getLsbD_and, h3, BitVec.getLsbD_sshiftRight, BitVec.getLsbD_setWidth, BitVec.getLsbD_extractLsb']
  by_cases h2 : i < 2
  · simp [h2, hi, show j + i < 32 by omega]
  · simp [h2]

/-- The high part the reference computes from the widened byte. -/
theorem field_high (t : ArithUnit) (h : BitVec 8) (j : ℕ) (hj : j ≤ 7) :
    IntOp.andi (IntOp.shrsi t (h.setWidth 32) (BitVec.ofNat 32 j)) 1#32 = (highBit j h).setWidth 32 := by
  rw [shrsi_nat _ _ j (by omega) (by omega)]
  apply BitVec.eq_of_getLsbD_eq
  intro i hi
  have h3 : (1#32).getLsbD i = decide (i < 1) := by interval_cases i <;> rfl
  simp only [IntOp.andi, highBit, BitVec.getLsbD_and, h3, BitVec.getLsbD_sshiftRight, BitVec.getLsbD_setWidth, BitVec.getLsbD_extractLsb']
  by_cases h2 : i < 1
  · simp [h2, hi, show j + i < 32 by omega]
  · simp [h2]

/-- The reference's number. -/
theorem code_value_words (u : BitVec 2) (v : BitVec 1) :
    (((IntOp.subi (IntOp.addi (u.setWidth 32) (IntOp.muli 4#32 (v.setWidth 32))) 4#32).toInt : ℝ) : EReal) = codeValue u v := by
  have hz : (IntOp.subi (IntOp.addi (u.setWidth 32) (IntOp.muli 4#32 (v.setWidth 32))) 4#32).toInt = ((u.toNat + 4 * v.toNat : ℕ) : ℤ) - 4 := by
    revert u v; decide
  rw [hz]
  rfl

end Cert.Q3

end
-- ==== Proof.Weights.lean ====
/- WHAT THE KERNEL'S SCRATCH OF WEIGHTS HOLDS. At the first row tile of every column tile the body decodes the 14336 × 512
   weights of the tile, block by block, in pieces of 16 rows that share one group scale. `weightRows` is the payload of
   one such store, `weight` the matrix they fill, `weights_eq` says that the pieces of all trips leave it. -/
module

public import proofs.«01_k».proof.Proof.GroupScales
public import proofs.«01_k».proof.Proof.Codes

@[expose] public section

noncomputable section

namespace Cert.KernelIdeal.Value

open Cert.KernelIdeal Cert.KernelIdeal.Gen Idealize.ShloMosaic Idealize.ShloMosaic.TcCoe Idealize.SL.Sem Cert.Q3

/-- The code bytes of one field of a block: 32 rows, from the rows of `hmask` and `qs` that hold them. -/
def fieldCodes (jl jh : BitVec 32) (hm qs : Vec Ideal S1x32x512 .i8) : IVec S32x512 8 :=
  bitcast S32x512 8 (ori (andi (shrsi (bitcast S8x512 32 (shapeCast S32x512 qs shapeCasts_S1x32x512_S32x512 : IVec S32x512 8) bitcasts_S32x512_w8_S8x512_w32) (broadcast S8x512 jl)) (broadcast S8x512 50529027#32))
    (shli (andi (shrsi (bitcast S8x512 32 (shapeCast S32x512 hm shapeCasts_S1x32x512_S32x512 : IVec S32x512 8) bitcasts_S32x512_w8_S8x512_w32) (broadcast S8x512 jh)) (broadcast S8x512 16843009#32)) (broadcast S8x512 2#32))) bitcasts_S8x512_w32_S32x512_w8

theorem fieldCodes_apply (jl jh : ℕ) (hl : jl ≤ 6) (hh : jh ≤ 7) (hm qs : Vec Ideal S1x32x512 .i8) (a : Fin 32) (n : Fin 512) :
    fieldCodes (BitVec.ofNat 32 jl) (BitVec.ofNat 32 jh) hm qs (ix2 a n)
      = codeByte (lowBits jl (qs (ix3 0 a n))) (highBit jh (hm (ix3 0 a n))) := by
  refine (fieldByte_apply (n := 512) (shapeCast S32x512 qs shapeCasts_S1x32x512_S32x512 : IVec S32x512 8) (shapeCast S32x512 hm shapeCasts_S1x32x512_S32x512 : IVec S32x512 8)
    bitcasts_S32x512_w8_S8x512_w32 bitcasts_S8x512_w32_S32x512_w8 jl jh hl hh a n).trans ?_
  pointwise

/-- One stored piece: 16 rows of a field, `o` rows in, times the scale of their group. -/
def weightRows (o : ℕ) (ho : S32x512.Slices ![o, 0] S16x512) (jl jh : BitVec 32) (hm qs : Vec Ideal S1x32x512 .i8) (g : Vec Ideal S1x1x2x512 .bf16) : FVec Ideal S16x512 .bf16 :=
  have lo : FVec Ideal S1x512 .bf16 := shapeCast S1x512 (shapeCast S1x1x512 (rowsOfParity 0 S1x1x1x512 g bitcasts_S1x1x2x512_w16_S1x1x1x512_w32) shapeCasts_S1x1x1x512_S1x1x512) shapeCasts_S1x1x512_S1x512
  have hi : FVec Ideal S1x512 .bf16 := shapeCast S1x512 (shapeCast S1x1x512 (rowsOfParity 1 S1x1x1x512 g bitcasts_S1x1x2x512_w16_S1x1x1x512_w32) shapeCasts_S1x1x1x512_S1x1x512) shapeCasts_S1x1x512_S1x512
  have los : FVec Ideal S8x512 .bf16 := concatenate S8x512 0 [⟨S1x512, lo⟩, ⟨S1x512, lo⟩, ⟨S1x512, lo⟩, ⟨S1x512, lo⟩, ⟨S1x512, lo⟩, ⟨S1x512, lo⟩, ⟨S1x512, lo⟩, ⟨S1x512, lo⟩] concatenates_S1x512_S1x512_S1x512_S1x512_S1x512_S1x512_S1x512_S1x512_S8x512_d0
  have his : FVec Ideal S8x512 .bf16 := concatenate S8x512 0 [⟨S1x512, hi⟩, ⟨S1x512, hi⟩, ⟨S1x512, hi⟩, ⟨S1x512, hi⟩, ⟨S1x512, hi⟩, ⟨S1x512, hi⟩, ⟨S1x512, hi⟩, ⟨S1x512, hi⟩] concatenates_S1x512_S1x512_S1x512_S1x512_S1x512_S1x512_S1x512_S1x512_S8x512_d0
  have q : FVec Ideal S32x512 .bf16 := subf (sitofp .bf16 (fieldCodes jl jh hm qs)) (broadcast S32x512 (Scalar.ofBits .bf16 0x4080#16))
  shapeCast S16x512 (mulf (extractStridedSlice S16x512 ![o, 0] q ho) (interleaveRows S16x512 los his bitcasts_S16x512_w16_S8x512_w32)) shapeCasts_S16x512_S16x512

theorem weightRows_apply (o : ℕ) (ho : S32x512.Slices ![o, 0] S16x512) (ho' : o ≤ 16) (jl jh : ℕ) (hl : jl ≤ 6) (hh : jh ≤ 7) (hm qs : Vec Ideal S1x32x512 .i8)
    (g : Vec Ideal S1x1x2x512 .bf16) (s : Fin 512 → EReal) (hg : ∀ p n, g (ix4 0 0 p n) = s n) (a : Fin 16) (n : Fin 512) :
    weightRows o ho (BitVec.ofNat 32 jl) (BitVec.ofNat 32 jh) hm qs g (ix2 a n)
      = codeValue (lowBits jl (qs (ix3 0 (⟨o + a.val, by omega⟩ : Fin 32) n))) (highBit jh (hm (ix3 0 (⟨o + a.val, by omega⟩ : Fin 32) n))) * s n := by
  unfold weightRows
  pointwise
  simp only [hg, dite_eq_ite, ite_self]
  rw [fieldCodes_apply jl jh hl hh]
  exact congrArg (· * s n) (code_value _ _)

/-- THE WEIGHTS of a column tile: the code of a row's place less four, times its group's scale. -/
def weight (x1 : Vec Ideal S56x64x512 .i8) (x2 : Vec Ideal S56x32x512 .i8) (x3 : Vec Ideal S12x56x512 .i8) (x4 : Vec Ideal S56x512 .f16) :
    Vec Ideal S14336x512 .bf16 := fun y =>
  codeValue
      (lowBits (2 * ((y 0).val % 256 / 32 % 4)) (x1 (ix3 (⟨(y 0).val / 256, by have h : (y 0).val < 14336 := (y 0).isLt; omega⟩ : Fin 56) (⟨32 * ((y 0).val % 256 / 128) + (y 0).val % 32, by omega⟩ : Fin 64) (y 1))))
      (highBit ((y 0).val % 256 / 32) (x2 (ix3 (⟨(y 0).val / 256, by have h : (y 0).val < 14336 := (y 0).isLt; omega⟩ : Fin 56) (⟨(y 0).val % 32, by omega⟩ : Fin 32) (y 1))))
    * scaleTable x3 x4 (ix4 (⟨(y 0).val % 256 / 16, by omega⟩ : Fin 16) (⟨(y 0).val / 256, by have h : (y 0).val < 14336 := (y 0).isLt; omega⟩ : Fin 56) 0 (y 1))

theorem rows_in (k t : ℕ) (hk : k < 56) (ht : t < 16) : ∀ a, (![256 * k + 16 * t, 0] : Fin 2 → ℕ) a + S16x512.size a ≤ S14336x512.size a := fun a => by
  fin_cases a
  · show 256 * k + 16 * t + 16 ≤ 14336; omega
  · show 0 + 512 ≤ 512; omega

theorem hmask_in (k : ℕ) (hk : k < 56) : ∀ a, (![k, 0, 0] : Fin 3 → ℕ) a + S1x32x512.size a ≤ S56x32x512.size a := fun a => by
  fin_cases a
  · show k + 1 ≤ 56; omega
  · show 0 + 32 ≤ 32; omega
  · show 0 + 512 ≤ 512; omega

theorem qs_in (k h : ℕ) (hk : k < 56) (hh : h < 2) : ∀ a, (![k, 32 * h, 0] : Fin 3 → ℕ) a + S1x32x512.size a ≤ S56x64x512.size a := fun a => by
  fin_cases a
  · show k + 1 ≤ 56; omega
  · show 32 * h + 32 ≤ 64; omega
  · show 0 + 512 ≤ 512; omega

theorem scale_in (k t : ℕ) (hk : k < 56) (ht : t < 16) : ∀ a, (![t, k, 0, 0] : Fin 4 → ℕ) a + S1x1x2x512.size a ≤ S16x56x2x512.size a := fun a => by
  fin_cases a
  · show t + 1 ≤ 16; omega
  · show k + 1 ≤ 56; omega
  · show 0 + 2 ≤ 2; omega
  · show 0 + 512 ≤ 512; omega

theorem half_slices (o : ℕ) (h : o ≤ 16) : S32x512.Slices ![o, 0] S16x512 := by
  refine ⟨rfl, fun a => ?_⟩
  fin_cases a
  · show o + 16 ≤ 32; omega
  · show 0 + 512 ≤ 512; omega

/-- Group `t` of block `k`, stored, is its 16 rows of the weights. -/
theorem weightRows_piece (x1 : Vec Ideal S56x64x512 .i8) (x2 : Vec Ideal S56x32x512 .i8) (x3 : Vec Ideal S12x56x512 .i8) (x4 : Vec Ideal S56x512 .f16)
    (k t : ℕ) (hk : k < 56) (ht : t < 16) {ow : Fin 2 → ℕ} {oh oq : Fin 3 → ℕ} {og : Fin 4 → ℕ}
    (hw : ow = ![256 * k + 16 * t, 0]) (hh : oh = ![k, 0, 0]) (hq : oq = ![k, 32 * (t / 8), 0]) (hg : og = ![t, k, 0, 0]) (x : S16x512.Idx) :
    weightRows (16 * (t % 2)) (half_slices _ (by omega)) (BitVec.ofNat 32 (2 * (t / 2 % 4))) (BitVec.ofNat 32 (t / 2))
      (View.ld x2 (Rect.unit oh S1x32x512.size (hh ▸ hmask_in k hk))) (View.ld x1 (Rect.unit oq S1x32x512.size (hq ▸ qs_in k _ hk (by omega))))
      (View.ld (scaleTable x3 x4) (Rect.unit og S1x1x2x512.size (hg ▸ scale_in k t hk ht))) x
      = weight x1 x2 x3 x4 ((Rect.unit (s := S14336x512) ow S16x512.size (hw ▸ rows_in k t hk ht)).emb x) := by
  subst hw hh hq hg
  obtain ⟨a, n, rfl⟩ : ∃ (a : Fin 16) (n : Fin 512), x = ix2 a n := ⟨x 0, x 1, eq_ix2 x⟩
  have e0 : ((Rect.unit (s := S14336x512) ![256 * k + 16 * t, 0] S16x512.size (rows_in k t hk ht)).emb (ix2 a n) 0).val = 256 * k + 16 * t + a.val := by
    rw [Rect.emb_apply]; show 256 * k + 16 * t + 1 * a.val = _; omega
  have e1 : (Rect.unit (s := S14336x512) ![256 * k + 16 * t, 0] S16x512.size (rows_in k t hk ht)).emb (ix2 a n) 1 = n := by
    apply Fin.ext; rw [Rect.emb_apply]; show 0 + 1 * n.val = _; omega
  rw [weightRows_apply (16 * (t % 2)) _ (by omega) (2 * (t / 2 % 4)) (t / 2) (by omega) (by omega) _ _ _
    (fun n => scaleTable x3 x4 (ix4 (⟨t, ht⟩ : Fin 16) (⟨k, hk⟩ : Fin 56) 0 n)) (fun p n => by
      have f0 : ((Rect.unit (s := S16x56x2x512) ![t, k, 0, 0] S1x1x2x512.size (scale_in k t hk ht)).emb (ix4 0 0 p n) 0).val = t := by
        rw [Rect.emb_apply]; show t + 1 * 0 = t; omega
      have f1 : (Rect.unit (s := S16x56x2x512) ![t, k, 0, 0] S1x1x2x512.size (scale_in k t hk ht)).emb (ix4 0 0 p n) 1 = (⟨k, hk⟩ : Fin 56) := by
        apply Fin.ext; rw [Rect.emb_apply]; show k + 1 * 0 = k; omega
      have f3 : (Rect.unit (s := S16x56x2x512) ![t, k, 0, 0] S1x1x2x512.size (scale_in k t hk ht)).emb (ix4 0 0 p n) 3 = n := by
        apply Fin.ext; rw [Rect.emb_apply]; show 0 + 1 * n.val = n.val; omega
      show scaleTable x3 x4 ((Rect.unit (s := S16x56x2x512) ![t, k, 0, 0] S1x1x2x512.size (scale_in k t hk ht)).emb (ix4 0 0 p n)) = _
      unfold scaleTable
      simp only [f0, f1, f3]
      rfl)]
  unfold weight
  simp only [e0, e1]
  pointwise
  have m1 : (256 * k + 16 * t + a.val) / 256 = k := by omega
  have m2 : (256 * k + 16 * t + a.val) % 256 / 32 = t / 2 := by omega
  have m3 : (256 * k + 16 * t + a.val) % 256 / 128 = t / 8 := by omega
  have m4 : (256 * k + 16 * t + a.val) % 32 = 16 * (t % 2) + a.val := by omega
  have m5 : (256 * k + 16 * t + a.val) % 256 / 16 = t := by omega
  simp only [m1, m2, m3, m4, m5]

theorem off_block (k : ℕ) (hk : k < 56) : (Scalar.indexCast (Scf.iv 0#32 1#32 k)).toNat = k := by
  show (0#32 + BitVec.ofNat 32 k * 1#32).toNat = k
  simp [BitVec.toNat_ofNat]; omega

theorem off_rows (k : ℕ) (hk : k < 56) (t : ℕ) (ht : t < 16) :
    (Scalar.indexCast (Scalar.addi (Scalar.muli 256#32 (Scf.iv 0#32 1#32 k)) (BitVec.ofNat 32 (16 * t)))).toNat = 256 * k + 16 * t := by
  show (256#32 * (0#32 + BitVec.ofNat 32 k * 1#32) + BitVec.ofNat 32 (16 * t)).toNat = _
  simp [BitVec.toNat_add, BitVec.toNat_mul, BitVec.toNat_ofNat]; omega

/-- The sixteen payloads the body stores are one computation. -/
theorem payloads (hm qs : Vec Ideal S1x32x512 .i8) (g : Vec Ideal S1x1x2x512 .bf16) :
    let W := fun t : ℕ => weightRows (16 * (t % 2)) (half_slices _ (by omega)) (BitVec.ofNat 32 (2 * (t / 2 % 4))) (BitVec.ofNat 32 (t / 2)) hm qs g
    k0_pay2 (k0_pay36 (k0_pay4 hm) (k0_pay22 qs)) (k0_pay38 g) (k0_pay39 g) = W 15
      ∧ k0_pay37 (k0_pay4 hm) (k0_pay22 qs) g = W 14
      ∧ k0_pay35 (k0_pay34 (k0_pay4 hm) (k0_pay22 qs) g) = W 13
      ∧ k0_pay33 (k0_pay4 hm) (k0_pay22 qs) g = W 12
      ∧ k0_pay31 (k0_pay4 hm) (k0_pay28 (k0_pay22 qs)) g = W 11
      ∧ k0_pay30 (k0_pay4 hm) (k0_pay28 (k0_pay22 qs)) g = W 10
      ∧ k0_pay27 (k0_pay23 qs) (k0_pay24 (k0_pay4 hm)) 2#32 g = W 9
      ∧ k0_pay26 (k0_pay23 qs) (k0_pay24 (k0_pay4 hm)) 2#32 g = W 8
      ∧ k0_pay21 (k0_pay18 (k0_pay4 hm) (k0_pay5 qs)) g = W 7
      ∧ k0_pay20 (k0_pay18 (k0_pay4 hm) (k0_pay5 qs)) g (k0_pay19 g) = W 6
      ∧ k0_pay17 (k0_pay13 (k0_pay4 hm) (k0_pay5 qs)) g = W 5
      ∧ k0_pay16 (k0_pay14 g) (k0_pay15 (k0_pay4 hm) (k0_pay5 qs)) = W 4
      ∧ k0_pay12 (k0_pay9 (k0_pay4 hm) (k0_pay5 qs)) g = W 3
      ∧ k0_pay11 (k0_pay10 (k0_pay4 hm) (k0_pay5 qs) g) = W 2
      ∧ k0_pay8 (k0_pay6 hm qs) g = W 1
      ∧ k0_pay7 hm qs g = W 0 :=
  ⟨rfl, rfl, rfl, rfl, rfl, rfl, rfl, rfl, rfl, rfl, rfl, rfl, rfl, rfl, rfl, rfl⟩

end Cert.KernelIdeal.Value

end
-- ==== Proof.Spec.lean ====
/- THE MATHEMATICS both programs compute, element by element from the arguments. -/
module

public import proofs.«01_k».proof.Proof.Weights

@[expose] public section

noncomputable section

namespace Cert.Q3

open Idealize.ShloMosaic Idealize.ShloMosaic.TcCoe Idealize.SL.Sem Cert.KernelIdeal.Value

/-- The scale of group `g` of a block, from the block's twelve scale bytes and its factor. -/
def scaleAt (sc : Fin 12 → BitVec 8) (d : EReal) (g : Fin 16) : EReal :=
  groupScale d (BitVec.ofNat 32 (4 * (g.val / 8))) (BitVec.ofNat 32 (2 * (g.val / 4)))
    (sc ⟨g.val % 8, by omega⟩) (sc ⟨8 + g.val % 4, by omega⟩)

/-- The weight at output column `o`, block `b`, half `h`, field `j`, position `l`: its code times its group's scale. -/
def weightAt (hm : Vec Ideal ⟨3, ![4096, 56, 32]⟩ .i8) (qs : Vec Ideal ⟨3, ![4096, 56, 64]⟩ .i8)
    (sc : Vec Ideal ⟨3, ![4096, 56, 12]⟩ .i8) (d : Vec Ideal ⟨2, ![4096, 56]⟩ .f16)
    (o : Fin 4096) (b : Fin 56) (h : Fin 2) (j : Fin 4) (l : Fin 32) : EReal :=
  codeValue (lowBits (2 * j.val) (qs (ix3 o b (⟨32 * h.val + l.val, by omega⟩ : Fin 64)))) (highBit (4 * h.val + j.val) (hm (ix3 o b l)))
    * scaleAt (fun i => sc (ix3 o b i)) (d (ix2 o b)) ⟨8 * h.val + 2 * j.val + l.val / 16, by omega⟩

/-- The block, half, field and position of row `k` of the weights. -/
abbrev blockOf (k : Fin 14336) : Fin 56 := ⟨k.val / 256, by omega⟩
abbrev halfOf (k : Fin 14336) : Fin 2 := ⟨k.val % 256 / 128, by omega⟩
abbrev fieldOf (k : Fin 14336) : Fin 4 := ⟨k.val % 256 / 32 % 4, by omega⟩
abbrev posOf (k : Fin 14336) : Fin 32 := ⟨k.val % 32, by omega⟩

/-- The linear layer at row `r` and output column `o`. -/
def layerAt (x : Vec Ideal ⟨3, ![12, 768, 14336]⟩ .bf16) (hm : Vec Ideal ⟨3, ![4096, 56, 32]⟩ .i8)
    (qs : Vec Ideal ⟨3, ![4096, 56, 64]⟩ .i8) (sc : Vec Ideal ⟨3, ![4096, 56, 12]⟩ .i8) (d : Vec Ideal ⟨2, ![4096, 56]⟩ .f16)
    (r : Fin 9216) (o : Fin 4096) : EReal :=
  ∑ k : Fin 14336, x (ix3 (⟨r.val / 768, by omega⟩ : Fin 12) (⟨r.val % 768, by omega⟩ : Fin 768) k)
    * weightAt hm qs sc d o (blockOf k) (halfOf k) (fieldOf k) (posOf k)

end Cert.Q3

end
-- ==== Proof.Trips.lean ====
/- THE KERNEL'S LOOP OVER THE BLOCKS leaves the weights of its column tile in the scratch. -/
module

public import proofs.«01_k».proof.Proof.Weights

@[expose] public section

noncomputable section

namespace Cert.KernelIdeal.Value

open Cert.KernelIdeal Cert.KernelIdeal.Gen Idealize.ShloMosaic Idealize.ShloMosaic.TcCoe Idealize.SL.Sem Cert.Q3

/-- The pieces of one trip are rows of the weights. -/
theorem trip_pieces (c : Dev nD) (i : grid0.Coords) (arg2 : Memref sig .tc .vmem S512x14336 .bf16) (harg2 : arg2.IsWhole) (arg3 : Memref sig .tc .vmem S56x64x512 .i8) (harg3 : arg3.IsWhole) (arg4 : Memref sig .tc .vmem S56x32x512 .i8) (harg4 : arg4.IsWhole) (arg5 : Memref sig .tc .vmem S12x56x512 .i8) (harg5 : arg5.IsWhole) (arg6 : Memref sig .tc .vmem S56x512 .f16) (harg6 : arg6.IsWhole) (arg7 : Memref sig .tc .vmem S512x512 .bf16) (harg7 : arg7.IsWhole) (arg8 : Memref sig .tc .vmem S14336x512 .bf16) (harg8 : arg8.IsWhole) (arg9 : Memref sig .tc .vmem S16x56x2x512 .bf16) (harg9 : arg9.IsWhole)     (k0_h1 : k0_cond1 i = 1#1) (X_arg3 : BufTy.Contents (Elt Ideal) arg3.view.ty) (X_arg4 : BufTy.Contents (Elt Ideal) arg4.view.ty) (X_arg9 : BufTy.Contents (Elt Ideal) arg9.view.ty)
    (x1 : Vec Ideal S56x64x512 .i8) (x2 : Vec Ideal S56x32x512 .i8) (x3 : Vec Ideal S12x56x512 .i8) (x4 : Vec Ideal S56x512 .f16)
    (h3 : arg3.view.read (Elt Ideal) X_arg3 = x1) (h4 : arg4.view.read (Elt Ideal) X_arg4 = x2) (h9 : arg9.view.read (Elt Ideal) X_arg9 = scaleTable x3 x4)
    (k : Fin k0_t1_loop.trips) :
    View.PiecesOf (weight x1 x2 x3 x4) (tripL_k0_t1 (F := Ideal) Variants.none c none i arg2 harg2 arg3 harg3 arg4 harg4 arg5 harg5 arg6 harg6 arg7 harg7 arg8 harg8 arg9 harg9 k0_h1 X_arg3 X_arg4 X_arg9 k) := by
  have hk : k.val < 56 := Nat.lt_of_lt_of_le k.isLt k0_t1_abs.2.1
  have hb := off_block k.val hk
  have hr := off_rows k.val hk
  unfold tripL_k0_t1 trip_k0_t1
  dsimp only
  sl_unfold_words
  simp only [View.readAt_eq_ld, h3, h4, h9]
  have e (t : ℕ) (ht : t < 16) := weightRows_piece x1 x2 x3 x4 k.val t hk ht
    (ow := ![(Scalar.indexCast (Scalar.addi (Scalar.muli 256#32 (Scf.iv 0#32 1#32 k.val)) (BitVec.ofNat 32 (16 * t)))).toNat, 0])
    (oh := ![(Scalar.indexCast (Scf.iv 0#32 1#32 k.val)).toNat, 0, 0]) (oq := ![(Scalar.indexCast (Scf.iv 0#32 1#32 k.val)).toNat, 32 * (t / 8), 0])
    (og := ![t, (Scalar.indexCast (Scf.iv 0#32 1#32 k.val)).toNat, 0, 0]) (by rw [hr t ht]) (by rw [hb]) (by rw [hb]) (by rw [hb])
  refine ⟨fun x => ?_, fun x => ?_, fun x => ?_, fun x => ?_, fun x => ?_, fun x => ?_, fun x => ?_,
    fun x => ?_, fun x => ?_, fun x => ?_, fun x => ?_, fun x => ?_, fun x => ?_, fun x => ?_,
    fun x => ?_, fun x => ?_, trivial⟩ <;> dsimp only
  · rw [(payloads _ _ _).1]; exact e 15 (by omega) x
  · rw [(payloads _ _ _).2.1]; exact e 14 (by omega) x
  · rw [(payloads _ _ _).2.2.1]; exact e 13 (by omega) x
  · rw [(payloads _ _ _).2.2.2.1]; exact e 12 (by omega) x
  · rw [(payloads _ _ _).2.2.2.2.1]; exact e 11 (by omega) x
  · rw [(payloads _ _ _).2.2.2.2.2.1]; exact e 10 (by omega) x
  · rw [(payloads _ _ _).2.2.2.2.2.2.1]; exact e 9 (by omega) x
  · rw [(payloads _ _ _).2.2.2.2.2.2.2.1]; exact e 8 (by omega) x
  · rw [(payloads _ _ _).2.2.2.2.2.2.2.2.1]; exact e 7 (by omega) x
  · rw [(payloads _ _ _).2.2.2.2.2.2.2.2.2.1]; exact e 6 (by omega) x
  · rw [(payloads _ _ _).2.2.2.2.2.2.2.2.2.2.1]; exact e 5 (by omega) x
  · rw [(payloads _ _ _).2.2.2.2.2.2.2.2.2.2.2.1]; exact e 4 (by omega) x
  · rw [(payloads _ _ _).2.2.2.2.2.2.2.2.2.2.2.2.1]; exact e 3 (by omega) x
  · rw [(payloads _ _ _).2.2.2.2.2.2.2.2.2.2.2.2.2.1]; exact e 2 (by omega) x
  · rw [(payloads _ _ _).2.2.2.2.2.2.2.2.2.2.2.2.2.2.1]; exact e 1 (by omega) x
  · rw [(payloads _ _ _).2.2.2.2.2.2.2.2.2.2.2.2.2.2.2]; exact e 0 (by omega) x

end Cert.KernelIdeal.Value

end
-- ==== Proof.Tile.lean ====
/- THE KERNEL'S TILE: what one grid point leaves in the scratch it carries and in its output block. -/
module

public import proofs.«01_k».proof.Proof.Trips
public import proofs.«01_k».proof.Proof.Gen.KernelIdeal.Frame

@[expose] public section

noncomputable section

namespace Cert.KernelIdeal.Value

open Cert.KernelIdeal Cert.KernelIdeal.Gen Idealize.ShloMosaic Idealize.ShloMosaic.TcCoe Idealize.SL.Sem Cert.Q3

variable (c : Dev nD) (i : grid0.Coords) (arg2 : Memref sig .tc .vmem S512x14336 .bf16) (harg2 : arg2.IsWhole) (arg3 : Memref sig .tc .vmem S56x64x512 .i8) (harg3 : arg3.IsWhole) (arg4 : Memref sig .tc .vmem S56x32x512 .i8) (harg4 : arg4.IsWhole) (arg5 : Memref sig .tc .vmem S12x56x512 .i8) (harg5 : arg5.IsWhole) (arg6 : Memref sig .tc .vmem S56x512 .f16) (harg6 : arg6.IsWhole) (arg7 : Memref sig .tc .vmem S512x512 .bf16) (harg7 : arg7.IsWhole) (arg8 : Memref sig .tc .vmem S14336x512 .bf16) (harg8 : arg8.IsWhole) (arg9 : Memref sig .tc .vmem S16x56x2x512 .bf16) (harg9 : arg9.IsWhole)
  (x0 : Vec Ideal S512x14336 .bf16) (x1 : Vec Ideal S56x64x512 .i8) (x2 : Vec Ideal S56x32x512 .i8) (x3 : Vec Ideal S12x56x512 .i8) (x4 : Vec Ideal S56x512 .f16)

/-- Every store of the first `n` trips holds rows of the weights. -/
theorem loop_pieces (k0_h1 : k0_cond1 i = 1#1) (X_arg3 : BufTy.Contents (Elt Ideal) arg3.view.ty) (X_arg4 : BufTy.Contents (Elt Ideal) arg4.view.ty) (X_arg9 : BufTy.Contents (Elt Ideal) arg9.view.ty)
    (h3 : arg3.view.read (Elt Ideal) X_arg3 = x1) (h4 : arg4.view.read (Elt Ideal) X_arg4 = x2) (h9 : arg9.view.read (Elt Ideal) X_arg9 = scaleTable x3 x4) :
    ∀ n : ℕ, n ≤ k0_t1_loop.trips → ∀ p ∈ pb_k0_t1 (F := Ideal) Variants.none c none i arg2 harg2 arg3 harg3 arg4 harg4 arg5 harg5 arg6 harg6 arg7 harg7 arg8 harg8 arg9 harg9 k0_h1 X_arg3 X_arg4 X_arg9 n,
      ∀ x : p.1.shape.Idx, p.2 x = weight x1 x2 x3 x4 (p.1.emb x)
  | 0, _ => by rw [pb_k0_t1.eq_1]; intro p hp; exact absurd hp (List.not_mem_nil)
  | n + 1, hn => by
    rw [pb_k0_t1_succ Variants.none c none i arg2 harg2 arg3 harg3 arg4 harg4 arg5 harg5 arg6 harg6 arg7 harg7 arg8 harg8 arg9 harg9 k0_h1 X_arg3 X_arg4 X_arg9 ⟨n, hn⟩]
    intro p hp
    rcases List.mem_append.1 hp with h | h
    · exact View.PiecesOf.mem (trip_pieces c i arg2 harg2 arg3 harg3 arg4 harg4 arg5 harg5 arg6 harg6 arg7 harg7 arg8 harg8 arg9 harg9 k0_h1 X_arg3 X_arg4 X_arg9 x1 x2 x3 x4 h3 h4 h9 ⟨n, hn⟩) p h
    · exact loop_pieces k0_h1 X_arg3 X_arg4 X_arg9 h3 h4 h9 n (Nat.le_of_succ_le hn) p h

theorem hz : (![0, 0] : Fin 2 → Nat) = fun _ => 0 := funext fun a => by fin_cases a <;> rfl

/-- What the stores of a first m-tile leave in the carried scratch: the weights of its column tile. -/
theorem scratch_canon (hc0 : cond0_0 i) :
    View.canon (kernelRun0_A (F := Ideal) c i arg2 harg2 arg3 harg3 arg4 harg4 arg5 harg5 arg6 harg6 arg7 harg7 arg8 harg8 arg9 harg9 hc0 x0 x1 x2 x3 x4).2.1 = weight x1 x2 x3 x4 := by
  funext y
  refine View.canon_apply_of_pieces (weight x1 x2 x3 x4) _ ?_ y (scover0_A_0 (F := Ideal) c i arg2 harg2 arg3 harg3 arg4 harg4 arg5 harg5 arg6 harg6 arg7 harg7 arg8 harg8 arg9 harg9 hc0 x0 x1 x2 x3 x4 y)
  unfold kernelRun0_A
  dsimp only
  exact loop_pieces c i arg2 harg2 arg3 harg3 arg4 harg4 arg5 harg5 arg6 harg6 arg7 harg7 arg8 harg8 arg9 harg9 x1 x2 x3 x4 hc0 _ _ _ (harg3.read_unread _) (harg4.read_unread _)
    ((View.read_writes_junk_eq_canon _ _).trans (table_eq c arg5 harg5 arg6 harg6 x3 x4)) _ (le_refl _)

/-- A first m-tile leaves the weights of its column tile in the scratch. -/
theorem scratch_A (hc0 : cond0_0 i) :
    sout0_A_0 (F := Ideal) c i arg2 harg2 arg3 harg3 arg4 harg4 arg5 harg5 arg6 harg6 arg7 harg7 arg8 harg8 arg9 harg9 hc0 x0 x1 x2 x3 x4 = weight x1 x2 x3 x4 := by
  unfold sout0_A_0
  rw [View.read_writes_junk_eq_canon]
  exact scratch_canon c i arg2 harg2 arg3 harg3 arg4 harg4 arg5 harg5 arg6 harg6 arg7 harg7 arg8 harg8 arg9 harg9 x0 x1 x2 x3 x4 hc0

/-- The product of a row tile of x with the weights of a column tile. -/
def tileOut (x : Vec Ideal S512x14336 .bf16) (w : Vec Ideal S14336x512 .bf16) : Vec Ideal S512x512 .bf16 := fun y =>
  ∑ k : Fin 14336, x (ix2 (y 0) k) * w (ix2 k (y 1))

theorem product_apply (x : Vec Ideal S512x14336 .bf16) (w : Vec Ideal S14336x512 .bf16) : k0_pay3 x w = tileOut x w := by
  funext y
  obtain ⟨r, o, rfl⟩ : ∃ (r : Fin 512) (o : Fin 512), y = ix2 r o := ⟨y 0, y 1, eq_ix2 y⟩
  unfold k0_pay3 tileOut
  pointwise

/-- A first m-tile's output block. -/
theorem out_A (hc0 : cond0_0 i) :
    out0_A_5 (F := Ideal) c i arg2 harg2 arg3 harg3 arg4 harg4 arg5 harg5 arg6 harg6 arg7 harg7 arg8 harg8 arg9 harg9 hc0 x0 x1 x2 x3 x4 = tileOut x0 (weight x1 x2 x3 x4) := by
  have hw := scratch_canon c i arg2 harg2 arg3 harg3 arg4 harg4 arg5 harg5 arg6 harg6 arg7 harg7 arg8 harg8 arg9 harg9 x0 x1 x2 x3 x4 hc0
  have hcov := scover0_A_0 (F := Ideal) c i arg2 harg2 arg3 harg3 arg4 harg4 arg5 harg5 arg6 harg6 arg7 harg7 arg8 harg8 arg9 harg9 hc0 x0 x1 x2 x3 x4
  unfold out0_A_5
  rw [View.read_writes_junk_eq_canon]
  unfold kernelRun0_A at hw hcov ⊢
  dsimp only at hw hcov ⊢
  rw [View.canon_unit_zero hz, View.readCov_eq_canon_ld _ _ _ hcov, hw, View.readAt_eq_ld, harg2.read_unread, View.ld_unit_zero (S := S512x14336) hz, View.ld_unit_zero (S := S14336x512) hz]
  exact product_apply _ _

/-- A later m-tile's output block, over the weights the scratch carries. -/
theorem out_B (hc0 : ¬cond0_0 i) (w : Vec Ideal S14336x512 .bf16) :
    out0_B_5 (F := Ideal) c i arg2 harg2 arg3 harg3 arg4 harg4 arg5 harg5 arg6 harg6 arg7 harg7 arg8 harg8 arg9 harg9 hc0 x0 x1 x2 x3 x4 w = tileOut x0 w := by
  unfold out0_B_5
  rw [View.read_writes_junk_eq_canon]
  unfold kernelRun0_B
  dsimp only
  rw [View.canon_unit_zero hz]
  sl_unfold_words
  simp only [View.readAt_eq_ld, harg2.read_unread, harg8.read_unread, View.ld_unit_zero (S := S512x14336) hz, View.ld_unit_zero (S := S14336x512) hz]
  exact product_apply _ _

end Cert.KernelIdeal.Value

end
-- ==== Proof.Blocks.lean ====
/- THE KERNEL'S INPUT BLOCKS, element by element from the arguments. -/
module

public import proofs.«01_k».proof.Proof.Gen.KernelIdeal.Frame
public import Idealize.ShloMosaic.Lib.Pointwise
public import Idealize.ShloMosaic.Lib.StableHlo.RunRead
public import Idealize.ShloMosaic.Lib.StableHlo.ReadAt

@[expose] public section

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments. -/
abbrev argX : Vec Ideal S12x768x14336 .bf16 := m ((c : Thread nD τ).loc main_arg0)
abbrev argH : Vec Ideal S4096x56x32 .i8 := m ((c : Thread nD τ).loc main_arg1)
abbrev argQ : Vec Ideal S4096x56x64 .i8 := m ((c : Thread nD τ).loc main_arg2)
abbrev argS : Vec Ideal S4096x56x12 .i8 := m ((c : Thread nD τ).loc main_arg3)
abbrev argD : Vec Ideal S4096x56 .f16 := m ((c : Thread nD τ).loc main_arg4)

theorem rows_apply (r : Fin 9216) (k : Fin 14336) :
    (V m c main_v0 : Vec Ideal S9216x14336 .bf16) (ix2 r k) = argX m c (ix3 ⟨r.val / 768, by omega⟩ ⟨r.val % 768, by omega⟩ k) := by
  unfold V hostOps0
  after_reads_at

theorem qs_apply (b : Fin 56) (l : Fin 64) (o : Fin 4096) :
    (V m c main_v1 : Vec Ideal S56x64x4096 .i8) (ix3 b l o) = argQ m c (ix3 o b l) := by
  unfold V hostOps0
  after_reads_at

theorem hmask_apply (b : Fin 56) (l : Fin 32) (o : Fin 4096) :
    (V m c main_v2 : Vec Ideal S56x32x4096 .i8) (ix3 b l o) = argH m c (ix3 o b l) := by
  unfold V hostOps0
  after_reads_at

theorem scales_apply (i : Fin 12) (b : Fin 56) (o : Fin 4096) :
    (V m c main_v3 : Vec Ideal S12x56x4096 .i8) (ix3 i b o) = argS m c (ix3 o b i) := by
  unfold V hostOps0
  after_reads_at

theorem d_apply (b : Fin 56) (o : Fin 4096) :
    (V m c main_v4 : Vec Ideal S56x4096 .f16) (ix2 b o) = argD m c (ix2 o b) := by
  unfold V hostOps0
  after_reads_at

/-- The grid's index maps, decided over its points. -/
theorem index_facts : ∀ t : Fin cfg0.N, win0_0.index t = ![t.val % 18, 0] ∧ win0_1.index t = ![0, 0, t.val / 18]
    ∧ win0_2.index t = ![0, 0, t.val / 18] ∧ win0_3.index t = ![0, 0, t.val / 18] ∧ win0_4.index t = ![0, t.val / 18] :=
  (by decide +kernel : ∀ t : Fin grid0.N, _)

variable (t : Fin cfg0.N)

theorem tile_lt : t.val / 18 < 8 := by
  have := lt_of_lt_of_eq t.isLt (show cfg0.N = 144 from N_0); omega

theorem xTile_apply (r : Fin 512) (k : Fin 14336) :
    (iblk m c 0 t : Vec Ideal S512x14336 .bf16) (ix2 r k)
      = (V m c main_v0 : Vec Ideal S9216x14336 .bf16) (ix2 ⟨512 * (t.val % 18) + r.val, by omega⟩ k) := by
  obtain ⟨h, -⟩ := index_facts t
  have h0 : win0_0.index t 0 = t.val % 18 := congrFun h 0
  have h1 : win0_0.index t 1 = 0 := congrFun h 1
  unfold iblk
  rw [View.read_apply]
  show V m c main_v0 _ = V m c main_v0 _
  congr 1
  funext a
  apply Fin.ext
  match a with
  | ⟨0, _⟩ => show win0_0.index t 0 * 512 + 1 * r.val = 512 * (t.val % 18) + r.val; rw [h0]; omega
  | ⟨1, _⟩ => show win0_0.index t 1 * 14336 + 1 * k.val = k.val; rw [h1]; omega

theorem qsTile_apply (b : Fin 56) (l : Fin 64) (n : Fin 512) :
    (iblk m c 1 t : Vec Ideal S56x64x512 .i8) (ix3 b l n) = argQ m c (ix3 ⟨512 * (t.val / 18) + n.val, by have := tile_lt t; omega⟩ b l) := by
  have ht := tile_lt t
  obtain ⟨h0, h1, h2, h3, h4⟩ := index_facts t
  unfold iblk
  rw [View.read_apply, ← qs_apply]
  show V m c main_v1 _ = V m c main_v1 _
  congr 1
  funext a
  apply Fin.ext
  match a with
  | ⟨0, _⟩ => show win0_1.index t 0 * 56 + 1 * b.val = b.val; rw [show win0_1.index t 0 = 0 from congrFun h1 0]; omega
  | ⟨1, _⟩ => show win0_1.index t 1 * 64 + 1 * l.val = l.val; rw [show win0_1.index t 1 = 0 from congrFun h1 1]; omega
  | ⟨2, _⟩ => show win0_1.index t 2 * 512 + 1 * n.val = 512 * (t.val / 18) + n.val; rw [show win0_1.index t 2 = t.val / 18 from congrFun h1 2]; omega

theorem hmaskTile_apply (b : Fin 56) (l : Fin 32) (n : Fin 512) :
    (iblk m c 2 t : Vec Ideal S56x32x512 .i8) (ix3 b l n) = argH m c (ix3 ⟨512 * (t.val / 18) + n.val, by have := tile_lt t; omega⟩ b l) := by
  have ht := tile_lt t
  obtain ⟨h0, h1, h2, h3, h4⟩ := index_facts t
  unfold iblk
  rw [View.read_apply, ← hmask_apply]
  show V m c main_v2 _ = V m c main_v2 _
  congr 1
  funext a
  apply Fin.ext
  match a with
  | ⟨0, _⟩ => show win0_2.index t 0 * 56 + 1 * b.val = b.val; rw [show win0_2.index t 0 = 0 from congrFun h2 0]; omega
  | ⟨1, _⟩ => show win0_2.index t 1 * 32 + 1 * l.val = l.val; rw [show win0_2.index t 1 = 0 from congrFun h2 1]; omega
  | ⟨2, _⟩ => show win0_2.index t 2 * 512 + 1 * n.val = 512 * (t.val / 18) + n.val; rw [show win0_2.index t 2 = t.val / 18 from congrFun h2 2]; omega

theorem scalesTile_apply (i : Fin 12) (b : Fin 56) (n : Fin 512) :
    (iblk m c 3 t : Vec Ideal S12x56x512 .i8) (ix3 i b n) = argS m c (ix3 ⟨512 * (t.val / 18) + n.val, by have := tile_lt t; omega⟩ b i) := by
  have ht := tile_lt t
  obtain ⟨h0, h1, h2, h3, h4⟩ := index_facts t
  unfold iblk
  rw [View.read_apply, ← scales_apply]
  show V m c main_v3 _ = V m c main_v3 _
  congr 1
  funext a
  apply Fin.ext
  match a with
  | ⟨0, _⟩ => show win0_3.index t 0 * 12 + 1 * i.val = i.val; rw [show win0_3.index t 0 = 0 from congrFun h3 0]; omega
  | ⟨1, _⟩ => show win0_3.index t 1 * 56 + 1 * b.val = b.val; rw [show win0_3.index t 1 = 0 from congrFun h3 1]; omega
  | ⟨2, _⟩ => show win0_3.index t 2 * 512 + 1 * n.val = 512 * (t.val / 18) + n.val; rw [show win0_3.index t 2 = t.val / 18 from congrFun h3 2]; omega

theorem dTile_apply (b : Fin 56) (n : Fin 512) :
    (iblk m c 4 t : Vec Ideal S56x512 .f16) (ix2 b n) = argD m c (ix2 ⟨512 * (t.val / 18) + n.val, by have := tile_lt t; omega⟩ b) := by
  have ht := tile_lt t
  obtain ⟨h0, h1, h2, h3, h4⟩ := index_facts t
  unfold iblk
  rw [View.read_apply, ← d_apply]
  show V m c main_v4 _ = V m c main_v4 _
  congr 1
  funext a
  apply Fin.ext
  match a with
  | ⟨0, _⟩ => show win0_4.index t 0 * 56 + 1 * b.val = b.val; rw [show win0_4.index t 0 = 0 from congrFun h4 0]; omega
  | ⟨1, _⟩ => show win0_4.index t 1 * 512 + 1 * n.val = 512 * (t.val / 18) + n.val; rw [show win0_4.index t 1 = t.val / 18 from congrFun h4 1]; omega

end Cert.KernelIdeal.Value

end
-- ==== Proof.KernelValue.lean ====
/- THE KERNEL'S RESULT: the scratch a column's first row tile fills serves its other row tiles, so every output block is
   its rows of x times the weights of its columns. -/
module

public import proofs.«01_k».proof.Proof.Spec
public import proofs.«01_k».proof.Proof.Tile
public import proofs.«01_k».proof.Proof.Blocks
public import proofs.«01_k».proof.Proof.Gen.KernelIdeal.Value

@[expose] public section

noncomputable section

namespace Cert.KernelIdeal.Value

open Cert.KernelIdeal Cert.KernelIdeal.Gen Idealize.ShloMosaic Idealize.ShloMosaic.TcCoe Idealize.SL.Sem Cert.Q3

variable (m : (ℓ : Loc nD τ sig) → Buf (Elt Ideal) ℓ) (c : Dev nD)

/-- The weights of column tile `q`. -/
def tileWeights (q : Fin 8) : Vec Ideal S14336x512 .bf16 := fun y =>
  weightAt (argH m c) (argQ m c) (argS m c) (argD m c) ⟨512 * q.val + (y 1).val, by have h : (y 1).val < 512 := (y 1).isLt; omega⟩
    (blockOf (y 0)) (halfOf (y 0)) (fieldOf (y 0)) (posOf (y 0))

/-- The weights built from a point's blocks are those of its column tile. -/
theorem weight_tile (t : Fin cfg0.N) :
    weight (iblk m c 1 t) (iblk m c 2 t) (iblk m c 3 t) (iblk m c 4 t) = tileWeights m c ⟨t.val / 18, tile_lt t⟩ := by
  funext y
  obtain ⟨k, n, rfl⟩ : ∃ (k : Fin 14336) (n : Fin 512), y = ix2 k n := ⟨y 0, y 1, eq_ix2 y⟩
  have hg : (⟨k.val % 256 / 16, by omega⟩ : Fin 16) = ⟨8 * (k.val % 256 / 128) + 2 * (k.val % 256 / 32 % 4) + k.val % 32 / 16, by omega⟩ :=
    Fin.ext (by show k.val % 256 / 16 = 8 * (k.val % 256 / 128) + 2 * (k.val % 256 / 32 % 4) + k.val % 32 / 16; omega)
  have hh : ∀ b, highBit (k.val % 256 / 32) b = highBit (4 * (k.val % 256 / 128) + k.val % 256 / 32 % 4) b := fun b => congrArg (highBit · b) (by omega)
  have e : weight (iblk m c 1 t) (iblk m c 2 t) (iblk m c 3 t) (iblk m c 4 t) (ix2 k n)
      = codeValue (lowBits (2 * (k.val % 256 / 32 % 4)) ((iblk m c 1 t : Vec Ideal S56x64x512 .i8) (ix3 (blockOf k) (⟨32 * (k.val % 256 / 128) + k.val % 32, by omega⟩ : Fin 64) n)))
          (highBit (k.val % 256 / 32) ((iblk m c 2 t : Vec Ideal S56x32x512 .i8) (ix3 (blockOf k) (posOf k) n)))
        * scaleAt (fun i => (iblk m c 3 t : Vec Ideal S12x56x512 .i8) (ix3 i (blockOf k) n)) ((iblk m c 4 t : Vec Ideal S56x512 .f16) (ix2 (blockOf k) n)) ⟨k.val % 256 / 16, by omega⟩ := rfl
  rw [e, hg, hh]
  simp only [qsTile_apply, hmaskTile_apply, scalesTile_apply, dTile_apply]
  rfl

/-- What the output block and the scratch hold after point `n`. -/
theorem outs_eq : ∀ (n : ℕ) (hn : n < cfg0.N), outsAt0 m c n hn
    = (tileOut (iblk m c 0 ⟨n, hn⟩) (tileWeights m c ⟨n / 18, tile_lt ⟨n, hn⟩⟩), tileWeights m c ⟨n / 18, tile_lt ⟨n, hn⟩⟩) := by
  intro n
  induction n with
  | zero =>
    intro hn
    rw [outsAt0_A m c ⟨0, hn⟩ rfl, out_A, scratch_A, weight_tile]
  | succ n ih =>
    intro hn
    by_cases h0 : (n + 1) % 18 = 0
    · rw [outsAt0_A m c ⟨n + 1, hn⟩ h0, out_A, scratch_A, weight_tile]
    · have hq : (⟨n / 18, tile_lt ⟨n, Nat.lt_of_succ_lt hn⟩⟩ : Fin 8) = ⟨(n + 1) / 18, tile_lt ⟨n + 1, hn⟩⟩ :=
        Fin.ext (by show n / 18 = (n + 1) / 18; omega)
      rw [outsAt0_B m c ⟨n + 1, hn⟩ h0, out_B]
      unfold sout0_B_0
      have e := congrArg Prod.snd (ih (Nat.lt_of_succ_lt hn))
      dsimp only at e
      show (tileOut _ (outsAt0 m c n _).2, (outsAt0 m c n _).2) = _
      rw [e, hq]

/-- An output block at a place of it: the layer at the place's row and column. -/
theorem tile_apply (n : ℕ) (hn : n < cfg0.N) (r' o' : Fin 512) (r : Fin 9216) (o : Fin 4096)
    (hr : 512 * (n % 18) + r'.val = r.val) (ho : 512 * (n / 18) + o'.val = o.val) :
    (outsAt0 m c n hn).1 (ix2 r' o') = layerAt (argX m c) (argH m c) (argQ m c) (argS m c) (argD m c) r o := by
  rw [outs_eq]
  dsimp only
  unfold tileOut layerAt tileWeights
  refine Finset.sum_congr rfl fun k _ => ?_
  have ex : (iblk m c 0 ⟨n, hn⟩ : Vec Ideal S512x14336 .bf16) (ix2 r' k) = argX m c (ix3 (⟨r.val / 768, by omega⟩ : Fin 12) (⟨r.val % 768, by omega⟩ : Fin 768) k) := by
    rw [xTile_apply, rows_apply]
    simp only [hr]
  have eo : (⟨512 * (n / 18) + o'.val, by omega⟩ : Fin 4096) = o := Fin.ext ho
  exact congrArg₂ (fun (a b : EReal) => a * b) ex (congrArg (fun o => weightAt (argH m c) (argQ m c) (argS m c) (argD m c) o (blockOf k) (halfOf k) (fieldOf k) (posOf k)) eo)

/-- THE KERNEL'S RESULT at an index. -/
theorem G5_apply (r : Fin 9216) (o : Fin 4096) :
    G5 m c (ix2 r o) = layerAt (argX m c) (argH m c) (argQ m c) (argS m c) (argD m c) r o := by
  have hv : pt5Of (ix2 r o) = r.val / 512 + 18 * (o.val / 512) := by
    show 1 * (r.val / 512 - 0) + 18 * (o.val / 512 - 0) = _
    omega
  have hp : pt5Of (ix2 r o) < cfg0.N := by
    rw [hv, show cfg0.N = 144 from N_0]; omega
  have hl : loc5Of (ix2 r o) = ix2 (⟨r.val % 512, by omega⟩ : Fin 512) (⟨o.val % 512, by omega⟩ : Fin 512) := eq_ix2 _
  unfold G5
  rw [dif_pos hp, hl]
  refine (congrArg (fun p : Vec Ideal S512x512 .bf16 × Vec Ideal S14336x512 .bf16 => p.1 (ix2 (⟨r.val % 512, by omega⟩ : Fin 512) (⟨o.val % 512, by omega⟩ : Fin 512))) (outsAt0_sweep m c (pt5Of (ix2 r o)) hp).symm).trans
    (tile_apply m c (pt5Of (ix2 r o)) hp _ _ r o ?_ ?_)
  · rw [hv]; show 512 * ((r.val / 512 + 18 * (o.val / 512)) % 18) + r.val % 512 = r.val; omega
  · rw [hv]; show 512 * ((r.val / 512 + 18 * (o.val / 512)) / 18) + o.val % 512 = o.val; omega

end Cert.KernelIdeal.Value

end
-- ==== Proof.RefParts.lean ====
module

public import proofs.«01_k».proof.Proof.Spec
public import proofs.«01_k».proof.Proof.Gen.ReferenceIdeal.Frame
public import Idealize.ShloMosaic.Lib.Pointwise
public import Idealize.ShloMosaic.Lib.StableHlo.RunRead
public import Idealize.ShloMosaic.Lib.StableHlo.ReadAt

/-! # The reference's product as eight parts

A block's 256 inputs are two halves of four runs of 32. The reference multiplies each of the eight runs on its own — over
all blocks — and adds the eight results in order. Here its lines after the widened factors are read at one result. -/

@[expose] public section

noncomputable section
namespace Cert.ReferenceIdeal.Value
open Cert.ReferenceIdeal Cert.ReferenceIdeal.Gen Idealize.ShloMosaic Idealize.ShloMosaic.TcCoe Idealize.SL.Sem Cert.Q3

/-- The part of run `(h, j)`: over its 32 places and the 56 blocks, input times (code times scale), the scale's code
    and factor taken from the arrays `C` and `D`. -/
def partOf (X : Vec Ideal S12x768x14336 .bf16) (H : Vec Ideal S4096x56x32 .i8) (Q : Vec Ideal S4096x56x64 .i8)
    (C : Vec Ideal S4096x56x16 .i32) (D : Vec Ideal S4096x56 .f32) (r : Fin 9216) (o : Fin 4096) (h : Fin 2) (j : Fin 4) : EReal :=
  ∑ l : Fin 32, ∑ n : Fin 56,
    X (ix3 (⟨r.val / 768, by omega⟩ : Fin 12) (⟨r.val % 768, by omega⟩ : Fin 768) (⟨256 * n.val + 128 * h.val + 32 * j.val + l.val, by omega⟩ : Fin 14336))
      * (codeValue (lowBits (2 * j.val) (Q (ix3 o n (⟨32 * h.val + l.val, by omega⟩ : Fin 64)))) (highBit (4 * h.val + j.val) (H (ix3 o n l)))
        * (D (ix2 o n) * FloatOps.sitofp (F := Ideal) .f32 (IntOp.subi (C (ix3 o n (⟨8 * h.val + 2 * j.val + l.val / 16, by omega⟩ : Fin 16))) 32#32)))

/-! ## The three factors of a term, their places reached by whatever arithmetic -/

/-- The input at equal places. -/
theorem x_term (X : Vec Ideal S12x768x14336 .bf16) (a : Fin 12) (s : Fin 768) (k k' : Fin 14336) (hk : k.val = k'.val) :
    X (ix3 a s k) = X (ix3 a s k') := by rw [Fin.ext hk]

/-- The code, as the program joins it from its two words. -/
theorem code_term (Q : Vec Ideal S4096x56x64 .i8) (H : Vec Ideal S4096x56x32 .i8) (o : Fin 4096) (n : Fin 56)
    (k k' : Fin 64) (l l' : Fin 32) (u v : BitVec 32) (i j : ℕ) (hk : k.val = k'.val) (hl : l.val = l'.val)
    (hu : u = BitVec.ofNat 32 i) (hv : v = BitVec.ofNat 32 j) (hi : i ≤ 6) (hj : j ≤ 7) :
    FloatOps.sitofp (F := Ideal) .bf16 (IntOp.subi (IntOp.addi
        (IntOp.andi (IntOp.shrsi .host (BitVec.setWidth 32 (Q (ix3 o n k))) u) 3#32)
        (IntOp.muli 4#32 (IntOp.andi (IntOp.shrsi .host (BitVec.setWidth 32 (H (ix3 o n l))) v) 1#32))) 4#32)
      = codeValue (lowBits i (Q (ix3 o n k'))) (highBit j (H (ix3 o n l'))) := by
  rw [Fin.ext hk, Fin.ext hl, hu, hv, field_low _ _ _ hi, field_high _ _ _ hj]
  exact code_value_words _ _

/-- The scale at equal groups. -/
theorem scale_term (C : Vec Ideal S4096x56x16 .i32) (D : Vec Ideal S4096x56 .f32) (o : Fin 4096) (n : Fin 56)
    (g g' : Fin 16) (hg : g.val = g'.val) :
    D (ix2 o n) * FloatOps.sitofp (F := Ideal) .f32 (IntOp.subi (C (ix3 o n g)) 32#32)
      = D (ix2 o n) * FloatOps.sitofp (F := Ideal) .f32 (IntOp.subi (C (ix3 o n g')) 32#32) := by rw [Fin.ext hg]

set_option maxHeartbeats 4000000 in
/-- The result at row `r` and output `o`: the eight parts, added in order. -/
theorem result_apply (W : Valuation τ sig (Elt Ideal)) (r : Fin 9216) (o : Fin 4096) :
    (StableHlo.after (hostOps1 (F := Ideal)) W main_v244 : Vec Ideal S9216x4096 .bf16) (ix2 r o)
      = partOf (W main_arg0) (W main_arg1) (W main_arg2) (W main_v23) (W main_v24) r o 0 0
        + partOf (W main_arg0) (W main_arg1) (W main_arg2) (W main_v23) (W main_v24) r o 0 1
        + partOf (W main_arg0) (W main_arg1) (W main_arg2) (W main_v23) (W main_v24) r o 0 2
        + partOf (W main_arg0) (W main_arg1) (W main_arg2) (W main_v23) (W main_v24) r o 0 3
        + partOf (W main_arg0) (W main_arg1) (W main_arg2) (W main_v23) (W main_v24) r o 1 0
        + partOf (W main_arg0) (W main_arg1) (W main_arg2) (W main_v23) (W main_v24) r o 1 1
        + partOf (W main_arg0) (W main_arg1) (W main_arg2) (W main_v23) (W main_v24) r o 1 2
        + partOf (W main_arg0) (W main_arg1) (W main_arg2) (W main_v23) (W main_v24) r o 1 3 := by
  after_reads_at
  refine congrArg₂ HAdd.hAdd (congrArg₂ HAdd.hAdd (congrArg₂ HAdd.hAdd (congrArg₂ HAdd.hAdd (congrArg₂ HAdd.hAdd
    (congrArg₂ HAdd.hAdd (congrArg₂ HAdd.hAdd ?_ ?_) ?_) ?_) ?_) ?_) ?_) ?_
  all_goals
    unfold partOf
    refine Finset.sum_congr rfl fun l _ => ?_
    refine Finset.sum_congr rfl fun n _ => ?_
    refine congrArg₂ HMul.hMul ?_ (congrArg₂ HMul.hMul ?_ ?_)
    · exact x_term (W main_arg0) _ _ _ _ (by first | omega | (simp; omega))
    · exact code_term (W main_arg2) (W main_arg1) o n _ _ _ _ _ _ _ _ (by first | omega | (simp; omega))
        (by first | omega | (simp; omega)) rfl rfl (by decide) (by decide)
    · exact scale_term (W main_v23) (W main_v24) o n _ _ (by simp)

end Cert.ReferenceIdeal.Value
-- ==== Proof.Equation.lean ====
module

public import proofs.«01_k».proof.Proof.RefParts

/-! # The eight parts are the layer

An input's number `k` is `256 n + 128 h + 32 j + l`: block `n`, half `h`, run `j`, place `l`. Summing over `k` is summing
over the four, and the eight pairs `(h, j)` are the reference's parts. -/

@[expose] public section

noncomputable section
namespace Cert.Q3
open Idealize.ShloMosaic Cert.KernelIdeal.Value Cert.ReferenceIdeal.Value

/-- An input's number as its half, run, place and block. -/
def inputEquiv : (Fin 2 × Fin 4) × Fin 32 × Fin 56 ≃ Fin 14336 where
  toFun p := ⟨256 * p.2.2.val + 128 * p.1.1.val + 32 * p.1.2.val + p.2.1.val, by omega⟩
  invFun k := ((halfOf k, fieldOf k), posOf k, blockOf k)
  left_inv := by
    rintro ⟨⟨h, j⟩, l, n⟩
    refine Prod.ext (Prod.ext (Fin.ext ?_) (Fin.ext ?_)) (Prod.ext (Fin.ext ?_) (Fin.ext ?_)) <;> dsimp only [halfOf, fieldOf, posOf, blockOf] <;> omega
  right_inv k := Fin.ext (by dsimp only [halfOf, fieldOf, posOf, blockOf]; omega)

/-- A sum over the inputs, as eight sums over the places and blocks. -/
theorem sum_inputs (f : Fin 14336 → EReal) (g : Fin 2 → Fin 4 → EReal)
    (hg : ∀ h j, g h j = ∑ l : Fin 32, ∑ n : Fin 56, f (inputEquiv ((h, j), l, n))) :
    ∑ k : Fin 14336, f k = g 0 0 + g 0 1 + g 0 2 + g 0 3 + g 1 0 + g 1 1 + g 1 2 + g 1 3 := by
  rw [← Equiv.sum_comp inputEquiv f, Fintype.sum_prod_type, Fintype.sum_prod_type, Fin.sum_univ_two, Fin.sum_univ_four, Fin.sum_univ_four]
  simp only [Fintype.sum_prod_type, ← hg, add_assoc]

/-- The eight parts, over a code array that holds the joined codes and the factors as they are, add up to the layer. -/
theorem parts_eq (X : Vec Ideal ⟨3, ![12, 768, 14336]⟩ .bf16) (H : Vec Ideal ⟨3, ![4096, 56, 32]⟩ .i8)
    (Q : Vec Ideal ⟨3, ![4096, 56, 64]⟩ .i8) (S : Vec Ideal ⟨3, ![4096, 56, 12]⟩ .i8) (d : Vec Ideal ⟨2, ![4096, 56]⟩ .f16)
    (C : Vec Ideal ⟨3, ![4096, 56, 16]⟩ .i32) (D : Vec Ideal ⟨2, ![4096, 56]⟩ .f32)
    (hC : ∀ (o : Fin 4096) (b : Fin 56) (g : Fin 16), C (ix3 o b g)
      = scaleCode (BitVec.ofNat 32 (4 * (g.val / 8))) (BitVec.ofNat 32 (2 * (g.val / 4)))
          (S (ix3 o b ⟨g.val % 8, by omega⟩)) (S (ix3 o b ⟨8 + g.val % 4, by omega⟩)))
    (hD : ∀ (o : Fin 4096) (b : Fin 56), D (ix2 o b) = d (ix2 o b)) (r : Fin 9216) (o : Fin 4096) :
    partOf X H Q C D r o 0 0 + partOf X H Q C D r o 0 1 + partOf X H Q C D r o 0 2 + partOf X H Q C D r o 0 3
      + partOf X H Q C D r o 1 0 + partOf X H Q C D r o 1 1 + partOf X H Q C D r o 1 2 + partOf X H Q C D r o 1 3
      = layerAt X H Q S d r o := by
  unfold layerAt
  refine (sum_inputs _ (partOf X H Q C D r o) fun h j => ?_).symm
  unfold partOf
  refine Finset.sum_congr rfl fun l _ => Finset.sum_congr rfl fun n _ => ?_
  rw [hC, hD]
  have e := inputEquiv.left_inv ((h, j), l, n)
  have eh : halfOf (inputEquiv ((h, j), l, n)) = h := congrArg (fun p => p.1.1) e
  have ej : fieldOf (inputEquiv ((h, j), l, n)) = j := congrArg (fun p => p.1.2) e
  have el : posOf (inputEquiv ((h, j), l, n)) = l := congrArg (fun p => p.2.1) e
  have en : blockOf (inputEquiv ((h, j), l, n)) = n := congrArg (fun p => p.2.2) e
  rw [eh, ej, el, en]
  rfl

end Cert.Q3
-- ==== Proof.RefScales.lean ====
module

public import proofs.«01_k».proof.Proof.Spec
public import proofs.«01_k».proof.Proof.Gen.ReferenceIdeal.Frame
public import Idealize.ShloMosaic.Lib.Pointwise
public import Idealize.ShloMosaic.Lib.StableHlo.RunRead
public import Idealize.ShloMosaic.Lib.StableHlo.ReadAt
public import Idealize.ShloMosaic.Lib.KernelVsHost

/-! # The reference's scale codes

The reference picks two of a block's twelve scale bytes for each of the sixteen groups by a table of positions, shifts
each by an amount from a second table, and joins four low bits of one with two bits of the other. Here the two picks are
read at an index, the four tables are written as arithmetic in the group's number, and the resulting code is the one
the specification's scale is made of. -/

@[expose] public section

noncomputable section
namespace Cert.ReferenceIdeal.Value
open Cert.ReferenceIdeal Cert.ReferenceIdeal.Gen Idealize.ShloMosaic Idealize.ShloMosaic.TcCoe Idealize.SL.Sem
open Cert.KernelIdeal.Value (scaleCode)

/-! ## A pick along the last of three axes -/

section Pick
variable {α : Type}

/-- The dimension numbers of a pick along the last axis: `K` positions into an operand `[A, B, N]`. -/
abbrev lastDims (A B N K : Nat)
    (wf : GatherDims.WF ⟨3, ![A, B, N]⟩ ⟨2, ![K, 1]⟩ ⟨3, ![A, B, K]⟩ [0, 1] [2] [] [2] [] 1 ![A, B, 1]) :
    GatherDims ⟨3, ![A, B, N]⟩ ⟨2, ![K, 1]⟩ ⟨3, ![A, B, K]⟩ where
  offsetDims := [0, 1]
  collapsedSliceDims := [2]
  operandBatchingDims := []
  startIndicesBatchingDims := []
  startIndexMap := [2]
  indexVectorDim := 1
  sliceSizes := ![A, B, 1]
  wf := wf

/-- The pick at `(a, b, k)` is the operand at `(a, b, position k)`, the position kept inside the axis. -/
theorem gather_last_apply {A B N K w : Nat} (hN : 0 < N)
    (wf : GatherDims.WF ⟨3, ![A, B, N]⟩ ⟨2, ![K, 1]⟩ ⟨3, ![A, B, K]⟩ [0, 1] [2] [] [2] [] 1 ![A, B, 1])
    (x : (⟨3, ![A, B, N]⟩ : Shape).Idx → α) (idx : IVec ⟨2, ![K, 1]⟩ w) (a : Fin A) (b : Fin B) (k : Fin K) :
    Host.gather (lastDims A B N K wf) x idx (ix3 a b k)
      = x (ix3 a b ⟨min (idx (ix2 k (0 : Fin 1))).toInt.toNat (N - 1), by omega⟩) := by
  unfold Host.gather
  congr 1
  funext e
  refine Fin.ext ?_
  show (lastDims A B N K wf).start (ix3 a b k) idx e + (lastDims A B N K wf).batchCoord (ix3 a b k) e
      + (lastDims A B N K wf).offCoord (ix3 a b k) e = _
  rw [GatherDims.batchCoord_eq_zero _ _ _ List.not_mem_nil]
  have h : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases h with rfl | rfl | rfl
  · unfold GatherDims.start GatherDims.offCoord
    rw [dif_neg (show (0 : Fin 3) ∉ (lastDims A B N K wf).startIndexMap from fun h => by simp at h),
      dif_pos ((GatherDims.mem_sKept _ _).mpr ⟨fun h => by simp at h, List.not_mem_nil⟩)]
    exact (Nat.zero_add _).trans rfl
  · unfold GatherDims.start GatherDims.offCoord
    rw [dif_neg (show (1 : Fin 3) ∉ (lastDims A B N K wf).startIndexMap from fun h => by simp at h),
      dif_pos ((GatherDims.mem_sKept _ _).mpr ⟨fun h => by simp at h, List.not_mem_nil⟩)]
    exact (Nat.zero_add _).trans rfl
  · rw [GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims A B N K wf).startIndexMap from List.mem_singleton.mpr rfl)]
    have hsi : (lastDims A B N K wf).siIdx (ix3 a b k) ⟨List.idxOf (2 : Fin 3) (lastDims A B N K wf).startIndexMap,
        List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl

end Pick

/-! ## The four tables -/

/-- The first pick's position. -/
theorem low_position (g : Fin 16) : min (lit0 g).toInt.toNat 11 = g.val % 8 := by revert g; decide
/-- The second pick's position. -/
theorem high_position (g : Fin 16) : min (lit2 g).toInt.toNat 11 = 8 + g.val % 4 := by revert g; decide
/-- The first pick's shift. -/
theorem low_shift (g : Fin 16) : lit1 g = BitVec.ofNat 32 (4 * (g.val / 8)) := by revert g; decide
/-- The second pick's shift. -/
theorem high_shift (g : Fin 16) : lit3 g = BitVec.ofNat 32 (2 * (g.val / 4)) := by revert g; decide

/-- The pick the program writes, at an index: the operand at the table's position. -/
theorem pick_apply (x : Vec Ideal S4096x56x12 .i32) (tbl : Fin 16 → BitVec 32) (o : Fin 4096) (b : Fin 56) (g : Fin 16) :
    Host.gather gather_S4096x56x12_S16x1_S4096x56x16_01_2_n_n_2_1_4096561 x
        (broadcastInDim S16x1 ![0] bcast_S16_S16x1_0
          (select (constantI S16 1 0#1)
            (addi (fun i => tbl (S16.rowMajor i)) (broadcastInDim S16 ![] bcast_S_S16 (constantI S_ 32 12#32)))
            fun i => tbl (S16.rowMajor i)))
        (ix3 o b g)
      = x (ix3 o b ⟨min (tbl g).toInt.toNat 11, by omega⟩) := by
  refine (gather_last_apply (A := 4096) (B := 56) (N := 12) (K := 16) (by decide)
    gather_S4096x56x12_S16x1_S4096x56x16_01_2_n_n_2_1_4096561_wf x _ o b g).trans ?_
  have e : (broadcastInDim S16x1 ![0] bcast_S16_S16x1_0
          (select (constantI S16 1 0#1)
            (addi (fun i => tbl (S16.rowMajor i)) (broadcastInDim S16 ![] bcast_S_S16 (constantI S_ 32 12#32)))
            fun i => tbl (S16.rowMajor i))) (ix2 g (0 : Fin 1)) = tbl g := by
    pointwise
    exact congrArg tbl (Fin.ext (Shape.rowMajor_val_one _))
  exact congrArg (fun k => x (ix3 o b k)) (Fin.ext (congrArg (fun p : BitVec 32 => min p.toInt.toNat 11) e))

/-- The reference's joined code of group `g` of block `b` of output `o`. -/
theorem code_apply (W : Valuation τ sig (Elt Ideal)) (o : Fin 4096) (b : Fin 56) (g : Fin 16) :
    (StableHlo.after (hostOps0 (F := Ideal)) W main_v23 : Vec Ideal S4096x56x16 .i32) (ix3 o b g)
      = scaleCode (BitVec.ofNat 32 (4 * (g.val / 8))) (BitVec.ofNat 32 (2 * (g.val / 4)))
          ((W main_arg3 : Vec Ideal S4096x56x12 .i8) (ix3 o b ⟨g.val % 8, by omega⟩))
          ((W main_arg3 : Vec Ideal S4096x56x12 .i8) (ix3 o b ⟨8 + g.val % 4, by omega⟩)) := by
  have hg : S16.rowMajor (ix1 g) = g := Fin.ext (Shape.rowMajor_val_one _)
  after_reads_at
  refine (congrArg₂ (fun p q => IntOp.ori (IntOp.andi (IntOp.shrsi .host p (lit1 (S16.rowMajor (ix1 g)))) 15#32)
      (IntOp.shli .host (IntOp.andi (IntOp.shrsi .host q (lit3 (S16.rowMajor (ix1 g)))) 3#32) 4#32))
    (pick_apply (extui 32 (W main_arg3 : Vec Ideal S4096x56x12 .i8) natLt_8_32) lit0 o b g)
    (pick_apply (extui 32 (W main_arg3 : Vec Ideal S4096x56x12 .i8) natLt_8_32) lit2 o b g)).trans ?_
  have h1 : lit1 (S16.rowMajor (ix1 g)) = BitVec.ofNat 32 (4 * (g.val / 8)) := (congrArg lit1 hg).trans (low_shift g)
  have h3 : lit3 (S16.rowMajor (ix1 g)) = BitVec.ofNat 32 (2 * (g.val / 4)) := (congrArg lit3 hg).trans (high_shift g)
  have p0 : (⟨min (lit0 g).toInt.toNat 11, by omega⟩ : Fin 12) = ⟨g.val % 8, by omega⟩ := Fin.ext (low_position g)
  have p2 : (⟨min (lit2 g).toInt.toNat 11, by omega⟩ : Fin 12) = ⟨8 + g.val % 4, by omega⟩ := Fin.ext (high_position g)
  rw [shrsi_unit .host .vector, shrsi_unit .host .vector, shli_unit .host .vector, h1, h3, p0, p2]
  rfl

end Cert.ReferenceIdeal.Value
-- ==== Proof.RefRun.lean ====
module

public import proofs.«01_k».proof.Proof.Equation
public import proofs.«01_k».proof.Proof.RefScales
public import Idealize.ShloMosaic.Lib.Pipeline.ValueKit

/-! # The reference's run

The widened factors are the factors; with the joined codes they make every result the layer's. -/

@[expose] public section

noncomputable section
namespace Cert.ReferenceIdeal.Value
open Cert.ReferenceIdeal Cert.ReferenceIdeal.Gen Idealize.ShloMosaic Idealize.ShloMosaic.TcCoe Idealize.SL.Sem Cert.Q3

variable (m : (ℓ : Loc nD τ sig) → Buf (Elt Ideal) ℓ) (ρ : Dev nD → PrngReg)

/-- The factors, at the width the reference widens them to. -/
def widened (c : Dev nD) : Vec Ideal S4096x56 .f32 := fun y => (m ((c : Thread nD τ).loc main_arg4) : Vec Ideal S4096x56 .f16) y

/-- The body leaves its block, widened. -/
theorem out_eq (x : Vec Ideal S4096x56 .f16) : (out0_1 x : Vec Ideal S4096x56 .f32) = fun y => x y := by
  have hz : (![0, 0] : Fin 2 → ℕ) = fun _ => 0 := by funext a; fin_cases a <;> rfl
  unfold out0_1 r0_0
  rw [View.canon_unit_zero hz, View.ld_unit_zero (S := S4096x56) hz]
  rfl

/-- Every point's block of the factors is the factors. -/
theorem block_eq (c : Dev nD) (t : Fin cfg0.N) (y : S4096x56.Idx) :
    (iblk m c 0 t : Vec Ideal S4096x56 .f16) y = (m ((c : Thread nD τ).loc main_arg4) : Vec Ideal S4096x56 .f16) y := by
  unfold iblk
  rw [View.read_apply]
  refine Eq.trans ?_ (congrFun (V_main_arg4 m c) y)
  show V m c main_arg4 _ = V m c main_arg4 _
  congr 1
  funext a
  apply Fin.ext
  match a with
  | ⟨0, _⟩ => show 0 * 4096 + 1 * (y 0).val = (y 0).val; omega
  | ⟨1, _⟩ => show 0 * 56 + 1 * (y 1).val = (y 1).val; omega

/-- The region leaves the factors, widened. -/
theorem region_eq (c : Dev nD) : (dats m 0 c).arrAt 1 cfg0.N = widened m c := by
  refine (dats m 0 c).arrAt_eq_of_after_last 1 t0_0 (by decide +kernel) _ fun y => ?_
  rw [after0_1, out_eq]
  exact block_eq m c t0_0 y

/-- The lines after the region, from any arrays that hold the arguments, the joined codes and the widened factors. -/
theorem result_layer (W : Valuation τ sig (Elt Ideal)) (X : Vec Ideal S12x768x14336 .bf16) (H : Vec Ideal S4096x56x32 .i8)
    (Q : Vec Ideal S4096x56x64 .i8) (S : Vec Ideal S4096x56x12 .i8) (d : Vec Ideal S4096x56 .f16)
    (hX : (W main_arg0 : Vec Ideal S12x768x14336 .bf16) = X) (hH : (W main_arg1 : Vec Ideal S4096x56x32 .i8) = H)
    (hQ : (W main_arg2 : Vec Ideal S4096x56x64 .i8) = Q)
    (hC : ∀ (o : Fin 4096) (b : Fin 56) (g : Fin 16), (W main_v23 : Vec Ideal S4096x56x16 .i32) (ix3 o b g)
      = Cert.KernelIdeal.Value.scaleCode (BitVec.ofNat 32 (4 * (g.val / 8))) (BitVec.ofNat 32 (2 * (g.val / 4)))
          (S (ix3 o b ⟨g.val % 8, by omega⟩)) (S (ix3 o b ⟨8 + g.val % 4, by omega⟩)))
    (hD : ∀ (o : Fin 4096) (b : Fin 56), (W main_v24 : Vec Ideal S4096x56 .f32) (ix2 o b) = d (ix2 o b)) (r : Fin 9216) (o : Fin 4096) :
    (StableHlo.after (hostOps1 (F := Ideal)) W main_v244 : Vec Ideal S9216x4096 .bf16) (ix2 r o) = layerAt X H Q S d r o := by
  have e : ∀ X' H' Q', X' = X → H' = H → Q' = Q → layerAt X' H' Q' S d r o = layerAt X H Q S d r o := by
    rintro _ _ _ rfl rfl rfl; rfl
  exact (result_apply W r o).trans
    ((parts_eq (W main_arg0) (W main_arg1) (W main_arg2) S d (W main_v23) (W main_v24) hC hD r o).trans (e _ _ _ hX hH hQ))

/-- The reference's result, element by element. -/
theorem tail_apply (c : Dev nD) (r : Fin 9216) (o : Fin 4096) :
    (Pipeline.afterTail₀ cfgs (dats m) 0 (V0 m) [hostOps1] c main_v244 : Vec Ideal S9216x4096 .bf16) (ix2 r o)
      = layerAt (m ((c : Thread nD τ).loc main_arg0)) (m ((c : Thread nD τ).loc main_arg1)) (m ((c : Thread nD τ).loc main_arg2))
          (m ((c : Thread nD τ).loc main_arg3)) (m ((c : Thread nD τ).loc main_arg4)) r o := by
  unfold Pipeline.afterTail₀
  rw [List.flatten_cons, List.flatten_nil, List.append_nil]
  refine result_layer _ _ _ _ _ _ ?_ ?_ ?_ (fun o b g => ?_) (fun o b => ?_) r o
  · exact (Pipeline.withArrays_of_ne _ c (V0 m c) _ main_arg0 (by exact (by decide : ∀ w, Pipeline.arrRef spec0 w ≠ main_arg0))).trans (V_main_arg0 m c)
  · exact (Pipeline.withArrays_of_ne _ c (V0 m c) _ main_arg1 (by exact (by decide : ∀ w, Pipeline.arrRef spec0 w ≠ main_arg1))).trans (V_main_arg1 m c)
  · exact (Pipeline.withArrays_of_ne _ c (V0 m c) _ main_arg2 (by exact (by decide : ∀ w, Pipeline.arrRef spec0 w ≠ main_arg2))).trans (V_main_arg2 m c)
  · refine (congrFun (Pipeline.withArrays_of_ne _ c (V0 m c) _ main_v23 (by exact (by decide : ∀ w, Pipeline.arrRef spec0 w ≠ main_v23))) (ix3 o b g)).trans ?_
    exact code_apply (fun b => m (c, b)) o b g
  · refine (congrFun (Pipeline.withArrays_arr spec0 (by exact (by decide : ∀ w w', Pipeline.arrRef spec0 w = Pipeline.arrRef spec0 w' → w = w')) c (V0 m c) _ 1) (ix2 o b)).trans ?_
    exact congrFun (region_eq m c) (ix2 o b)

/-- The layer of the arguments, as the result array. -/
def layer (c : Dev nD) : Vec Ideal S9216x4096 .bf16 := fun y =>
  layerAt (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1)

/-- Every run of the reference ends with the layer in its result, its arguments as they were. -/
theorem run : θ_run (defs (F := Ideal)) (onTc (τ := τ) (main (F := Ideal))) ⟨m, fun _ => 0, ρ⟩ fun r => ∀ c : Dev nD,
      r.2.mem ((c.tc : Thread nD τ).loc main_v244) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 0).trans (((dats m 0 c).arrAt_in 0 rfl _).trans ((A_eq m c 0).trans (V_main_arg4 m c)))⟩) (run_main m ρ)
  refine ((h c).2 main_v244 (Pipeline.mem_restRefs_of main_v244 (by decide) (by decide))).trans ?_
  funext y
  obtain ⟨a, o, rfl⟩ : ∃ (a : Fin 9216) (o : Fin 4096), y = ix2 a o := ⟨y 0, y 1, eq_ix2 y⟩
  exact tail_apply m c a o

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.KernelValue
public import proofs.«01_k».proof.Proof.RefRun
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The kernel's result and the reference's are both the layer of the arguments. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.layer m' c = Cert.KernelIdeal.Value.G5 m c := by
  funext y
  obtain ⟨r, o, rfl⟩ : ∃ (r : Fin 9216) (o : Fin 4096), y = ix2 r o := ⟨y 0, y 1, eq_ix2 y⟩
  refine Eq.trans ?_ (Cert.KernelIdeal.Value.G5_apply m c r o).symm
  obtain ⟨h0, h1, h2, h3, h4⟩ := h
  unfold Cert.ReferenceIdeal.Value.layer
  rw [h0, h1, h2, h3, h4]
  rfl

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ,
  ⟨IdealRules.bf16_pair.bufferStatement _ _,
    IdealRules.bf16_pair.packStatement _, IdealRules.bf16_pair.statement _ _, IdealRules.bf16_pair.statement _ _,
    IdealRules.bf16_pair.statement _ _⟩,
  fun m g m' g' _ h => ⟨fun c => Cert.KernelIdeal.Value.G5 m c, Cert.KernelIdeal.Value.run m g,
    (θ_run _ _ _).mono (fun _ hr c => ⟨(hr c).1.trans (values_eq m m' c (h c)), (hr c).2⟩) (Cert.ReferenceIdeal.Value.run m' g')⟩⟩

end Cert.Proof

end
